-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_geometry [hPre_finite_geometry : Cert.Pre_finite_geometry.Facts] (m : (ℓ : Loc Cert.KernelIdeal.nD Cert.KernelIdeal.τ Cert.KernelIdeal.sig) → Buf (Elt Ideal) ℓ) : Prop :=
  ∀ c : Dev Cert.KernelIdeal.nD,
    (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).1 = (fun _ => 1#1)
    ∧ (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.1 = (fun _ => 1#1)
    ∧ (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.1 = (fun _ => 1#1)
    ∧ (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.1 = (fun _ => 1#1)
    ∧ (Cert.Pre_finite_geometry.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_geometry [hPre_finite_geometry : Cert.Pre_finite_geometry.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).1 = (fun _ => 1#1)
    ∧ (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.1 = (fun _ => 1#1)
    ∧ (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.1 = (fun _ => 1#1)
    ∧ (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.1 = (fun _ => 1#1)
    ∧ (Cert.Pre_finite_geometry.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_finite_geometry [hKernelIdeal : Cert.KernelIdeal.Facts] [hPre_finite_geometry : Cert.Pre_finite_geometry.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_geometry m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_finite_geometry [hReferenceIdeal : Cert.ReferenceIdeal.Facts] [hPre_finite_geometry : Cert.Pre_finite_geometry.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_geometry m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  IdealRules.named_const.Statement Cert.KernelIdeal.κ "inv_sqrt2" .f32 0x3F3504F3#32 (((Real.sqrt 2)⁻¹ : ℝ) : EReal)

def algebraic_KernelIdeal_ReferenceIdeal_pre_finite_geometry [hKernelIdeal : Cert.KernelIdeal.Facts] [hReferenceIdeal : Cert.ReferenceIdeal.Facts] [hPre_finite_geometry : Cert.Pre_finite_geometry.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_geometry m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_geometry : Cert.Pre_finite_geometry.Facts),
    quiescent_Kernel (hKernel := hKernel)
    ∧ quiescent_KernelIdeal (hKernelIdeal := hKernelIdeal)
    ∧ quiescent_KernelIdeal_pre_finite_geometry (hKernelIdeal := hKernelIdeal) (hPre_finite_geometry := hPre_finite_geometry)
    ∧ quiescent_ReferenceIdeal (hReferenceIdeal := hReferenceIdeal)
    ∧ quiescent_ReferenceIdeal_pre_finite_geometry (hReferenceIdeal := hReferenceIdeal) (hPre_finite_geometry := hPre_finite_geometry)
    ∧ preserves_Kernel_KernelIdeal
    ∧ algebraic_KernelIdeal_ReferenceIdeal_pre_finite_geometry (hKernelIdeal := hKernelIdeal) (hReferenceIdeal := hReferenceIdeal) (hPre_finite_geometry := hPre_finite_geometry)
-- ==== Pre_finite_geometry.lean ====
abbrev S2048x3 : Shape := ⟨2, ![2048, 3]⟩
abbrev S2048x3x3 : Shape := ⟨3, ![2048, 3, 3]⟩
abbrev S2048x128 : Shape := ⟨2, ![2048, 128]⟩
abbrev S64x128 : Shape := ⟨2, ![64, 128]⟩
abbrev S64 : Shape := ⟨1, ![64]⟩
abbrev S64x64 : Shape := ⟨2, ![64, 64]⟩
abbrev S8x3 : Shape := ⟨2, ![8, 3]⟩
abbrev S8 : Shape := ⟨1, ![8]⟩
abbrev S64x8 : Shape := ⟨2, ![64, 8]⟩
abbrev S128x64 : Shape := ⟨2, ![128, 64]⟩
abbrev S128 : Shape := ⟨1, ![128]⟩
abbrev S128x128 : Shape := ⟨2, ![128, 128]⟩
abbrev S_ : Shape := ⟨0, ![]⟩

class Facts : Prop where
  bcast_S_S2048x3 : S_.BroadcastsInDim S2048x3 (![] : Fin 0 → Fin S2048x3.rank)
  bcast_S_S2048x3x3 : S_.BroadcastsInDim S2048x3x3 (![] : Fin 0 → Fin S2048x3x3.rank)
  bcast_S_S8x3 : S_.BroadcastsInDim S8x3 (![] : Fin 0 → Fin S8x3.rank)
  bcast_S_S64 : S_.BroadcastsInDim S64 (![] : Fin 0 → Fin S64.rank)
  bcast_S_S128 : S_.BroadcastsInDim S128 (![] : Fin 0 → Fin S128.rank)

variable [Facts]

def fn {F : FTy → Type} [FloatOps F] (main_arg0 : FVec F S2048x3 .f32) (main_arg1 : FVec F S2048x3x3 .f32) (main_arg2 : FVec F S2048x128 .f32) (main_arg3 : FVec F S64x128 .f32) (main_arg4 : FVec F S64 .f32) (main_arg5 : FVec F S64x64 .f32) (main_arg6 : FVec F S64 .f32) (main_arg7 : FVec F S64 .f32) (main_arg8 : FVec F S64 .f32) (main_arg9 : FVec F S8x3 .f32) (main_arg10 : FVec F S8 .f32) (main_arg11 : FVec F S64x8 .f32) (main_arg12 : FVec F S64 .f32) (main_arg13 : FVec F S128x64 .f32) (main_arg14 : FVec F S128 .f32) (main_arg15 : FVec F S128x128 .f32) (main_arg16 : FVec F S128 .f32) (main_arg17 : FVec F S128 .f32) (main_arg18 : FVec F S128 .f32) : IVec S2048x3 1 × IVec S2048x3x3 1 × IVec S8x3 1 × IVec S64 1 × IVec S128 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_v3 : FVec F S2048x3x3 .f32 := Host.absf main_arg1
  let main_cst_0 : FVec F S_ .f32 := constant S_ .f32 0x7F800000#32
  let main_v4 : FVec F S2048x3x3 .f32 := broadcastInDim S2048x3x3 ![] bcast_S_S2048x3x3 main_cst_0
  let main_v5 : IVec S2048x3x3 1 := cmpf .olt main_v3 main_v4
  let main_v6 : FVec F S8x3 .f32 := Host.absf main_arg9
  let main_cst_1 : FVec F S_ .f32 := constant S_ .f32 0x7F800000#32
  let main_v7 : FVec F S8x3 .f32 := broadcastInDim S8x3 ![] bcast_S_S8x3 main_cst_1
  let main_v8 : IVec S8x3 1 := cmpf .olt main_v6 main_v7
  let main_v9 : FVec F S64 .f32 := Host.absf main_arg7
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S128 .f32 := Host.absf main_arg17
  let main_cst_3 : FVec F S_ .f32 := constant S_ .f32 0x7F800000#32
  let main_v13 : FVec F S128 .f32 := broadcastInDim S128 ![] bcast_S_S128 main_cst_3
  let main_v14 : IVec S128 1 := cmpf .olt main_v12 main_v13
  (main_v2, main_v5, main_v8, main_v11, main_v14)
-- ==== Kernel.lean ====
abbrev S2048x3 : Shape := ⟨2, ![2048, 3]⟩
abbrev S2048x3x3 : Shape := ⟨3, ![2048, 3, 3]⟩
abbrev S2048x128 : Shape := ⟨2, ![2048, 128]⟩
abbrev S64x128 : Shape := ⟨2, ![64, 128]⟩
abbrev S64 : Shape := ⟨1, ![64]⟩
abbrev S64x64 : Shape := ⟨2, ![64, 64]⟩
abbrev S8x3 : Shape := ⟨2, ![8, 3]⟩
abbrev S8 : Shape := ⟨1, ![8]⟩
abbrev S64x8 : Shape := ⟨2, ![64, 8]⟩
abbrev S128x64 : Shape := ⟨2, ![128, 64]⟩
abbrev S128 : Shape := ⟨1, ![128]⟩
abbrev S128x128 : Shape := ⟨2, ![128, 128]⟩
abbrev S2048x1x3 : Shape := ⟨3, ![2048, 1, 3]⟩
abbrev S3x2048 : Shape := ⟨2, ![3, 2048]⟩
abbrev S2048x9 : Shape := ⟨2, ![2048, 9]⟩
abbrev S1x64 : Shape := ⟨2, ![1, 64]⟩
abbrev S8x64 : Shape := ⟨2, ![8, 64]⟩
abbrev S1x128 : Shape := ⟨2, ![1, 128]⟩
abbrev S2048x64 : Shape := ⟨2, ![2048, 64]⟩
abbrev S1x2048 : Shape := ⟨2, ![1, 2048]⟩
abbrev S1x16 : Shape := ⟨2, ![1, 16]⟩
abbrev S1x1x16 : Shape := ⟨3, ![1, 1, 16]⟩
abbrev S1 : Shape := ⟨1, ![1]⟩
abbrev S1x1x1 : Shape := ⟨3, ![1, 1, 1]⟩
abbrev S1024x3 : Shape := ⟨2, ![1024, 3]⟩
abbrev S1024x1 : Shape := ⟨2, ![1024, 1]⟩
abbrev S1024 : Shape := ⟨1, ![1024]⟩
abbrev S2048 : Shape := ⟨1, ![2048]⟩
abbrev S1024x5 : Shape := ⟨2, ![1024, 5]⟩
abbrev S5x2048 : Shape := ⟨2, ![5, 2048]⟩
abbrev S1024x2048 : Shape := ⟨2, ![1024, 2048]⟩
abbrev S1024x4 : Shape := ⟨2, ![1024, 4]⟩
abbrev S4x2048 : Shape := ⟨2, ![4, 2048]⟩
abbrev S1024x9 : Shape := ⟨2, ![1024, 9]⟩
abbrev S1024x64 : Shape := ⟨2, ![1024, 64]⟩
abbrev S1x1 : Shape := ⟨2, ![1, 1]⟩
abbrev S1024x128 : Shape := ⟨2, ![1024, 128]⟩
abbrev S1x32 : Shape := ⟨2, ![1, 32]⟩
abbrev S1x1x32 : Shape := ⟨3, ![1, 1, 32]⟩

abbrev nBuf : Space → Nat
  | .hbm => 39
  | .vmem => 23
  | .smem => 2
  | _ => 0

abbrev bufTy : (tb : Table) → Fin (tcTables nBuf tb) → BufTy
  | .hbm, ⟨0, _⟩ => ⟨S2048x3, .f32⟩
  | .hbm, ⟨1, _⟩ => ⟨S2048x3x3, .f32⟩
  | .hbm, ⟨2, _⟩ => ⟨S2048x128, .f32⟩
  | .hbm, ⟨3, _⟩ => ⟨S64x128, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S8x3, .f32⟩
  | .hbm, ⟨10, _⟩ => ⟨S8, .f32⟩
  | .hbm, ⟨11, _⟩ => ⟨S64x8, .f32⟩
  | .hbm, ⟨12, _⟩ => ⟨S64, .f32⟩
  | .hbm, ⟨13, _⟩ => ⟨S128x64, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128, .f32⟩
  | .hbm, ⟨18, _⟩ => ⟨S128, .f32⟩
  | .hbm, ⟨19, _⟩ => ⟨S2048x1x3, .f32⟩
  | .hbm, ⟨20, _⟩ => ⟨S2048x3, .f32⟩
  | .hbm, ⟨21, _⟩ => ⟨S3x2048, .f32⟩
  | .hbm, ⟨22, _⟩ => ⟨S3x2048, .f32⟩
  | .hbm, ⟨23, _⟩ => ⟨S2048x9, .f32⟩
  | .hbm, ⟨24, _⟩ => ⟨S128x64, .f32⟩
  | .hbm, ⟨25, _⟩ => ⟨S1x64, .f32⟩
  | .hbm, ⟨26, _⟩ => ⟨S64x64, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S8x64, .f32⟩
  | .hbm, ⟨31, _⟩ => ⟨S1x64, .f32⟩
  | .hbm, ⟨32, _⟩ => ⟨S64x128, .f32⟩
  | .hbm, ⟨33, _⟩ => ⟨S1x128, .f32⟩
  | .hbm, ⟨34, _⟩ => ⟨S128x128, .f32⟩
  | .hbm, ⟨35, _⟩ => ⟨S1x128, .f32⟩
  | .hbm, ⟨36, _⟩ => ⟨S1x128, .f32⟩
  | .hbm, ⟨37, _⟩ => ⟨S1x128, .f32⟩
  | .hbm, ⟨38, _⟩ => ⟨S2048x128, .f32⟩
  | .local _ .vmem, ⟨0, _⟩ => ⟨S2048x3, .f32⟩
  | .local _ .vmem, ⟨1, _⟩ => ⟨S3x2048, .f32⟩
  | .local _ .vmem, ⟨2, _⟩ => ⟨S2048x3, .f32⟩
  | .local _ .vmem, ⟨3, _⟩ => ⟨S3x2048, .f32⟩
  | .local _ .vmem, ⟨4, _⟩ => ⟨S2048x9, .f32⟩
  | .local _ .vmem, ⟨5, _⟩ => ⟨S2048x128, .f32⟩
  | .local _ .vmem, ⟨6, _⟩ => ⟨S128x64, .f32⟩
  | .local _ .vmem, ⟨7, _⟩ => ⟨S1x64, .f32⟩
  | .local _ .vmem, ⟨8, _⟩ => ⟨S64x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S8x64, .f32⟩
  | .local _ .vmem, ⟨13, _⟩ => ⟨S1x64, .f32⟩
  | .local _ .vmem, ⟨14, _⟩ => ⟨S64x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S2048x128, .f32⟩
  | .local _ .vmem, ⟨21, _⟩ => ⟨S2048x64, .f32⟩
  | .local _ .vmem, ⟨22, _⟩ => ⟨S2048x128, .f32⟩
  | .local _ .smem, ⟨0, _⟩ => ⟨S8x3, .f32⟩
  | .local _ .smem, ⟨1, _⟩ => ⟨S8, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg16_0 : Ref sig .tc := ⟨.vmem, 14, rfl⟩
abbrev cc0_stg17_0 : Ref sig .tc := ⟨.vmem, 15, rfl⟩
abbrev cc0_stg18_0 : Ref sig .tc := ⟨.vmem, 16, rfl⟩
abbrev cc0_stg19_0 : Ref sig .tc := ⟨.vmem, 17, rfl⟩
abbrev cc0_stg20_0 : Ref sig .tc := ⟨.vmem, 18, rfl⟩
abbrev cc0_stg21_0 : Ref sig .tc := ⟨.vmem, 19, rfl⟩
abbrev cc0_stg22_0 : Ref sig .tc := ⟨.vmem, 20, rfl⟩
abbrev cc0_scratch0 : Ref sig .tc := ⟨.vmem, 21, rfl⟩
abbrev cc0_scratch1 : Ref sig .tc := ⟨.vmem, 22, rfl⟩
abbrev cc0_stg12_0 : Ref sig .tc := ⟨.smem, 0, rfl⟩
abbrev cc0_stg13_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![2], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def k0_off2 (i : grid0.Coords) : Fin 2 → Nat :=
  let arg0 : BitVec 32 := BitVec.ofNat 32 (i 0).val
  let c1024_i32 : BitVec 32 := 1024#32
  let v3 : BitVec 32 := Scalar.muli arg0 c1024_i32
  let v42 : Index := Scalar.indexCast v3
  let c0_17 : Index := 0#32
  ![v42.toNat, 0]
def k0_off3 (i : grid0.Coords) : Fin 2 → Nat :=
  let arg0 : BitVec 32 := BitVec.ofNat 32 (i 0).val
  let c1024_i32 : BitVec 32 := 1024#32
  let v3 : BitVec 32 := Scalar.muli arg0 c1024_i32
  let v324 : Index := Scalar.indexCast v3
  let c0_134 : Index := 0#32
  ![v324.toNat, 0]
def k0_cond2 (i : grid0.Coords) : BitVec 1 :=
  let arg0 : BitVec 32 := BitVec.ofNat 32 (i 0).val
  let c1_i32 : BitVec 32 := 1#32
  let v328 : BitVec 1 := Scalar.cmpi .eq arg0 c1_i32
  let v329 : BitVec 32 := Scalar.extui v328
  let c0_i32_135 : BitVec 32 := 0#32
  let v330 : BitVec 1 := Scalar.cmpi .ne v329 c0_i32_135
  v330

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S8x3 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S8x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S64x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S2048x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== KernelIdeal.lean ====
variable {F : FTy → Type} [FloatOps F] [Named F]
def κ : String → Option EReal := fun
  | "inv_sqrt2" => some (((Real.sqrt 2)⁻¹ : ℝ) : EReal)
  | _ => none
-- ==== ReferenceIdeal.lean ====
abbrev S2048x3 : Shape := ⟨2, ![2048, 3]⟩
abbrev S2048x3x3 : Shape := ⟨3, ![2048, 3, 3]⟩
abbrev S2048x128 : Shape := ⟨2, ![2048, 128]⟩
abbrev S64x128 : Shape := ⟨2, ![64, 128]⟩
abbrev S64 : Shape := ⟨1, ![64]⟩
abbrev S64x64 : Shape := ⟨2, ![64, 64]⟩
abbrev S8x3 : Shape := ⟨2, ![8, 3]⟩
abbrev S8 : Shape := ⟨1, ![8]⟩
abbrev S64x8 : Shape := ⟨2, ![64, 8]⟩
abbrev S128x64 : Shape := ⟨2, ![128, 64]⟩
abbrev S128 : Shape := ⟨1, ![128]⟩
abbrev S128x128 : Shape := ⟨2, ![128, 128]⟩
abbrev S2048x64 : Shape := ⟨2, ![2048, 64]⟩
abbrev S1x64 : Shape := ⟨2, ![1, 64]⟩
abbrev S_ : Shape := ⟨0, ![]⟩
abbrev S64x2048 : Shape := ⟨2, ![64, 2048]⟩
abbrev S4x32768 : Shape := ⟨2, ![4, 32768]⟩
abbrev S4 : Shape := ⟨1, ![4]⟩
abbrev S4x1 : Shape := ⟨2, ![4, 1]⟩
abbrev S64x1 : Shape := ⟨2, ![64, 1]⟩
abbrev S2048x1x3 : Shape := ⟨3, ![2048, 1, 3]⟩
abbrev S1x2048x3 : Shape := ⟨3, ![1, 2048, 3]⟩
abbrev S2048x2048x3 : Shape := ⟨3, ![2048, 2048, 3]⟩
abbrev S2048x2048 : Shape := ⟨2, ![2048, 2048]⟩
abbrev S2048x2048x8 : Shape := ⟨3, ![2048, 2048, 8]⟩
abbrev S1x1x8 : Shape := ⟨3, ![1, 1, 8]⟩
abbrev S2048x2048x1 : Shape := ⟨3, ![2048, 2048, 1]⟩
abbrev S2048x8 : Shape := ⟨2, ![2048, 8]⟩
abbrev S8x8 : Shape := ⟨2, ![8, 8]⟩
abbrev S2048x8x8 : Shape := ⟨3, ![2048, 8, 8]⟩
abbrev S8x2048 : Shape := ⟨2, ![8, 2048]⟩
abbrev S1x8 : Shape := ⟨2, ![1, 8]⟩
abbrev S1x128 : Shape := ⟨2, ![1, 128]⟩
abbrev S128x2048 : Shape := ⟨2, ![128, 2048]⟩
abbrev S4x65536 : Shape := ⟨2, ![4, 65536]⟩
abbrev S128x1 : Shape := ⟨2, ![128, 1]⟩

abbrev nBuf : Space → Nat
  | .hbm => 261
  | .vmem => 0
  | .smem => 0
  | _ => 0

abbrev hbmTy0_0 (i : Nat) : BufTy := match i % 128 with
  | 0 => ⟨S2048x3, .f32⟩
  | 1 => ⟨S2048x3x3, .f32⟩
  | 2 => ⟨S2048x128, .f32⟩
  | 3 => ⟨S64x128, .f32⟩
  | 4 => ⟨S64, .f32⟩
  | 5 => ⟨S64x64, .f32⟩
  | 6 => ⟨S64, .f32⟩
  | 7 => ⟨S64, .f32⟩
  | 8 => ⟨S64, .f32⟩
  | 9 => ⟨S8x3, .f32⟩
  | 10 => ⟨S8, .f32⟩
  | 11 => ⟨S64x8, .f32⟩
  | 12 => ⟨S64, .f32⟩
  | 13 => ⟨S128x64, .f32⟩
  | 14 => ⟨S128, .f32⟩
  | 15 => ⟨S128x128, .f32⟩
  | 16 => ⟨S128, .f32⟩
  | 17 => ⟨S128, .f32⟩
  | 18 => ⟨S128, .f32⟩
  | 19 => ⟨S128x64, .f32⟩
  | 20 => ⟨S2048x64, .f32⟩
  | 21 => ⟨S1x64, .f32⟩
  | 22 => ⟨S2048x64, .f32⟩
  | 23 => ⟨S2048x64, .f32⟩
  | 24 => ⟨S_, .f32⟩
  | 25 => ⟨S_, .f32⟩
  | 26 => ⟨S2048x64, .f32⟩
  | 27 => ⟨S2048x64, .i1⟩
  | 28 => ⟨S_, .f32⟩
  | 29 => ⟨S2048x64, .f32⟩
  | 30 => ⟨S2048x64, .f32⟩
  | 31 => ⟨S2048x64, .f32⟩
  | 32 => ⟨S64x64, .f32⟩
  | 33 => ⟨S2048x64, .f32⟩
  | 34 => ⟨S1x64, .f32⟩
  | 35 => ⟨S2048x64, .f32⟩
  | 36 => ⟨S2048x64, .f32⟩
  | 37 => ⟨S_, .f32⟩
  | 38 => ⟨S_, .f32⟩
  | 39 => ⟨S2048x64, .f32⟩
  | 40 => ⟨S2048x64, .i1⟩
  | 41 => ⟨S_, .f32⟩
  | 42 => ⟨S2048x64, .f32⟩
  | 43 => ⟨S2048x64, .f32⟩
  | 44 => ⟨S2048x64, .f32⟩
  | 45 => ⟨S64x2048, .f32⟩
  | 46 => ⟨S4x32768, .f32⟩
  | 47 => ⟨S_, .f32⟩
  | 48 => ⟨S4, .f32⟩
  | 49 => ⟨S4x1, .f32⟩
  | 50 => ⟨S_, .f32⟩
  | 51 => ⟨S4x1, .f32⟩
  | 52 => ⟨S4x1, .f32⟩
  | 53 => ⟨S4x32768, .f32⟩
  | 54 => ⟨S4x32768, .f32⟩
  | 55 => ⟨S4x32768, .f32⟩
  | 56 => ⟨S_, .f32⟩
  | 57 => ⟨S4, .f32⟩
  | 58 => ⟨S4x1, .f32⟩
  | 59 => ⟨S_, .f32⟩
  | 60 => ⟨S4x1, .f32⟩
  | 61 => ⟨S4x1, .f32⟩
  | 62 => ⟨S4x32768, .f32⟩
  | 63 => ⟨S4x32768, .f32⟩
  | 64 => ⟨S_, .f32⟩
  | 65 => ⟨S4x1, .f32⟩
  | 66 => ⟨S4x1, .f32⟩
  | 67 => ⟨S4x1, .f32⟩
  | 68 => ⟨S4x32768, .f32⟩
  | 69 => ⟨S4x32768, .f32⟩
  | 70 => ⟨S64x2048, .f32⟩
  | 71 => ⟨S64x1, .f32⟩
  | 72 => ⟨S64x2048, .f32⟩
  | 73 => ⟨S64x2048, .f32⟩
  | 74 => ⟨S64x1, .f32⟩
  | 75 => ⟨S64x2048, .f32⟩
  | 76 => ⟨S64x2048, .f32⟩
  | 77 => ⟨S2048x64, .f32⟩
  | 78 => ⟨S_, .f32⟩
  | 79 => ⟨S_, .f32⟩
  | 80 => ⟨S_, .f32⟩
  | 81 => ⟨S_, .f32⟩
  | 82 => ⟨S2048x3, .f32⟩
  | 83 => ⟨S2048x3, .f32⟩
  | 84 => ⟨S2048x1x3, .f32⟩
  | 85 => ⟨S2048x3, .f32⟩
  | 86 => ⟨S1x2048x3, .f32⟩
  | 87 => ⟨S2048x1x3, .f32⟩
  | 88 => ⟨S2048x2048x3, .f32⟩
  | 89 => ⟨S2048x2048x3, .f32⟩
  | 90 => ⟨S2048x2048x3, .f32⟩
  | 91 => ⟨S2048x2048, .f32⟩
  | 92 => ⟨S2048x2048x3, .f32⟩
  | 93 => ⟨S_, .f32⟩
  | 94 => ⟨S2048x2048, .f32⟩
  | 95 => ⟨S_, .f32⟩
  | 96 => ⟨S2048x2048, .f32⟩
  | 97 => ⟨S2048x2048, .f32⟩
  | 98 => ⟨S2048x2048, .f32⟩
  | 99 => ⟨S2048x2048, .f32⟩
  | 100 => ⟨S2048x2048, .f32⟩
  | 101 => ⟨S2048x2048, .f32⟩
  | 102 => ⟨S2048x2048x3, .f32⟩
  | 103 => ⟨S2048x2048x8, .f32⟩
  | 104 => ⟨S1x1x8, .f32⟩
  | 105 => ⟨S2048x2048x8, .f32⟩
  | 106 => ⟨S2048x2048x8, .f32⟩
  | 107 => ⟨S_, .f32⟩
  | 108 => ⟨S2048x2048x8, .f32⟩
  | 109 => ⟨S2048x2048x8, .f32⟩
  | 110 => ⟨S2048x2048x1, .f32⟩
  | 111 => ⟨S2048x2048x8, .f32⟩
  | 112 => ⟨S2048x2048x8, .f32⟩
  | 113 => ⟨S2048x8, .f32⟩
  | 114 => ⟨S8x8, .f32⟩
  | 115 => ⟨S8, .f32⟩
  | 116 => ⟨S2048x8x8, .f32⟩
  | 117 => ⟨S8x2048, .f32⟩
  | 118 => ⟨S2048x8, .f32⟩
  | 119 => ⟨S1x8, .f32⟩
  | 120 => ⟨S2048x8, .f32⟩
  | 121 => ⟨S2048x8, .f32⟩
  | 122 => ⟨S2048x8, .f32⟩
  | 123 => ⟨S2048x8, .f32⟩
  | 124 => ⟨S2048x8, .f32⟩
  | 125 => ⟨S8x8, .f32⟩
  | 126 => ⟨S8, .f32⟩
  | 127 => ⟨S2048x8x8, .f32⟩
  | _ => ⟨S2048x3, .f32⟩

abbrev hbmTy0_1 (i : Nat) : BufTy := match i % 128 with
  | 0 => ⟨S8x2048, .f32⟩
  | 1 => ⟨S2048x8, .f32⟩
  | 2 => ⟨S1x8, .f32⟩
  | 3 => ⟨S2048x8, .f32⟩
  | 4 => ⟨S2048x8, .f32⟩
  | 5 => ⟨S2048x8, .f32⟩
  | 6 => ⟨S2048x8, .f32⟩
  | 7 => ⟨S2048x8, .f32⟩
  | 8 => ⟨S8x8, .f32⟩
  | 9 => ⟨S8, .f32⟩
  | 10 => ⟨S2048x8x8, .f32⟩
  | 11 => ⟨S8x2048, .f32⟩
  | 12 => ⟨S2048x8, .f32⟩
  | 13 => ⟨S1x8, .f32⟩
  | 14 => ⟨S2048x8, .f32⟩
  | 15 => ⟨S2048x8, .f32⟩
  | 16 => ⟨S2048x8, .f32⟩
  | 17 => ⟨S2048x8, .f32⟩
  | 18 => ⟨S2048x8, .f32⟩
  | 19 => ⟨S8x8, .f32⟩
  | 20 => ⟨S8, .f32⟩
  | 21 => ⟨S2048x8x8, .f32⟩
  | 22 => ⟨S8x2048, .f32⟩
  | 23 => ⟨S2048x8, .f32⟩
  | 24 => ⟨S1x8, .f32⟩
  | 25 => ⟨S2048x8, .f32⟩
  | 26 => ⟨S2048x8, .f32⟩
  | 27 => ⟨S2048x8, .f32⟩
  | 28 => ⟨S2048x8, .f32⟩
  | 29 => ⟨S2048x8, .f32⟩
  | 30 => ⟨S8x8, .f32⟩
  | 31 => ⟨S8, .f32⟩
  | 32 => ⟨S2048x8x8, .f32⟩
  | 33 => ⟨S8x2048, .f32⟩
  | 34 => ⟨S2048x8, .f32⟩
  | 35 => ⟨S1x8, .f32⟩
  | 36 => ⟨S2048x8, .f32⟩
  | 37 => ⟨S2048x8, .f32⟩
  | 38 => ⟨S2048x8, .f32⟩
  | 39 => ⟨S2048x8, .f32⟩
  | 40 => ⟨S2048x8, .f32⟩
  | 41 => ⟨S8x8, .f32⟩
  | 42 => ⟨S8, .f32⟩
  | 43 => ⟨S2048x8x8, .f32⟩
  | 44 => ⟨S8x2048, .f32⟩
  | 45 => ⟨S2048x8, .f32⟩
  | 46 => ⟨S1x8, .f32⟩
  | 47 => ⟨S2048x8, .f32⟩
  | 48 => ⟨S2048x8, .f32⟩
  | 49 => ⟨S2048x8, .f32⟩
  | 50 => ⟨S2048x8, .f32⟩
  | 51 => ⟨S2048x8, .f32⟩
  | 52 => ⟨S8x8, .f32⟩
  | 53 => ⟨S8, .f32⟩
  | 54 => ⟨S2048x8x8, .f32⟩
  | 55 => ⟨S8x2048, .f32⟩
  | 56 => ⟨S2048x8, .f32⟩
  | 57 => ⟨S1x8, .f32⟩
  | 58 => ⟨S2048x8, .f32⟩
  | 59 => ⟨S2048x8, .f32⟩
  | 60 => ⟨S2048x8, .f32⟩
  | 61 => ⟨S2048x8, .f32⟩
  | 62 => ⟨S2048x8, .f32⟩
  | 63 => ⟨S8x8, .f32⟩
  | 64 => ⟨S8, .f32⟩
  | 65 => ⟨S2048x8x8, .f32⟩
  | 66 => ⟨S8x2048, .f32⟩
  | 67 => ⟨S2048x8, .f32⟩
  | 68 => ⟨S1x8, .f32⟩
  | 69 => ⟨S2048x8, .f32⟩
  | 70 => ⟨S2048x8, .f32⟩
  | 71 => ⟨S2048x8, .f32⟩
  | 72 => ⟨S2048x8, .f32⟩
  | 73 => ⟨S2048x64, .f32⟩
  | 74 => ⟨S64x128, .f32⟩
  | 75 => ⟨S2048x128, .f32⟩
  | 76 => ⟨S1x128, .f32⟩
  | 77 => ⟨S2048x128, .f32⟩
  | 78 => ⟨S2048x128, .f32⟩
  | 79 => ⟨S_, .f32⟩
  | 80 => ⟨S_, .f32⟩
  | 81 => ⟨S2048x128, .f32⟩
  | 82 => ⟨S2048x128, .i1⟩
  | 83 => ⟨S_, .f32⟩
  | 84 => ⟨S2048x128, .f32⟩
  | 85 => ⟨S2048x128, .f32⟩
  | 86 => ⟨S2048x128, .f32⟩
  | 87 => ⟨S128x128, .f32⟩
  | 88 => ⟨S2048x128, .f32⟩
  | 89 => ⟨S1x128, .f32⟩
  | 90 => ⟨S2048x128, .f32⟩
  | 91 => ⟨S2048x128, .f32⟩
  | 92 => ⟨S_, .f32⟩
  | 93 => ⟨S_, .f32⟩
  | 94 => ⟨S2048x128, .f32⟩
  | 95 => ⟨S2048x128, .i1⟩
  | 96 => ⟨S_, .f32⟩
  | 97 => ⟨S2048x128, .f32⟩
  | 98 => ⟨S2048x128, .f32⟩
  | 99 => ⟨S2048x128, .f32⟩
  | 100 => ⟨S128x2048, .f32⟩
  | 101 => ⟨S4x65536, .f32⟩
  | 102 => ⟨S_, .f32⟩
  | 103 => ⟨S4, .f32⟩
  | 104 => ⟨S4x1, .f32⟩
  | 105 => ⟨S_, .f32⟩
  | 106 => ⟨S4x1, .f32⟩
  | 107 => ⟨S4x1, .f32⟩
  | 108 => ⟨S4x65536, .f32⟩
  | 109 => ⟨S4x65536, .f32⟩
  | 110 => ⟨S4x65536, .f32⟩
  | 111 => ⟨S_, .f32⟩
  | 112 => ⟨S4, .f32⟩
  | 113 => ⟨S4x1, .f32⟩
  | 114 => ⟨S_, .f32⟩
  | 115 => ⟨S4x1, .f32⟩
  | 116 => ⟨S4x1, .f32⟩
  | 117 => ⟨S4x65536, .f32⟩
  | 118 => ⟨S4x65536, .f32⟩
  | 119 => ⟨S_, .f32⟩
  | 120 => ⟨S4x1, .f32⟩
  | 121 => ⟨S4x1, .f32⟩
  | 122 => ⟨S4x1, .f32⟩
  | 123 => ⟨S4x65536, .f32⟩
  | 124 => ⟨S4x65536, .f32⟩
  | 125 => ⟨S128x2048, .f32⟩
  | 126 => ⟨S128x1, .f32⟩
  | 127 => ⟨S128x2048, .f32⟩
  | _ => ⟨S2048x3, .f32⟩

abbrev hbmTy0_2 (i : Nat) : BufTy := match i % 128 with
  | 0 => ⟨S128x2048, .f32⟩
  | 1 => ⟨S128x1, .f32⟩
  | 2 => ⟨S128x2048, .f32⟩
  | 3 => ⟨S128x2048, .f32⟩
  | 4 => ⟨S2048x128, .f32⟩
  | _ => ⟨S2048x3, .f32⟩

abbrev hbmTy (i : Nat) : BufTy := match i / 128 with
  | 0 => hbmTy0_0 i
  | 1 => hbmTy0_1 i
  | 2 => hbmTy0_2 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_cst_0 : Ref sig .tc := ⟨.hbm, 37, rfl⟩
abbrev main_call1_cst : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_1 : Ref sig .tc := ⟨.hbm, 47, rfl⟩
abbrev main_v14 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_cst_3 : Ref sig .tc := ⟨.hbm, 56, rfl⟩
abbrev main_v21 : Ref sig .tc := ⟨.hbm, 57, rfl⟩
abbrev main_v22 : Ref sig .tc := ⟨.hbm, 58, rfl⟩
abbrev main_cst_4 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_cst_5 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_cst_6 : Ref sig .tc := ⟨.hbm, 78, rfl⟩
abbrev main_v40 : Ref sig .tc := ⟨.hbm, 79, rfl⟩
abbrev main_cst_7 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_v52 : Ref sig .tc := ⟨.hbm, 92, rfl⟩
abbrev main_cst_8 : Ref sig .tc := ⟨.hbm, 93, rfl⟩
abbrev main_v53 : Ref sig .tc := ⟨.hbm, 94, rfl⟩
abbrev main_cst_9 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_call2_cst : Ref sig .tc := ⟨.hbm, 107, rfl⟩
abbrev main_call2_v0 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_10 : Ref sig .tc := ⟨.hbm, 207, rfl⟩
abbrev main_call3_cst : Ref sig .tc := ⟨.hbm, 208, rfl⟩
abbrev main_call3_v0 : Ref sig .tc := ⟨.hbm, 209, rfl⟩
abbrev main_call3_v1 : Ref sig .tc := ⟨.hbm, 210, rfl⟩
abbrev main_call3_v2 : Ref sig .tc := ⟨.hbm, 211, rfl⟩
abbrev main_call3_v3 : Ref sig .tc := ⟨.hbm, 212, rfl⟩
abbrev main_call3_v4 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_v168 : Ref sig .tc := ⟨.hbm, 219, rfl⟩
abbrev main_cst_11 : Ref sig .tc := ⟨.hbm, 220, rfl⟩
abbrev main_call4_cst : Ref sig .tc := ⟨.hbm, 221, rfl⟩
abbrev main_call4_v0 : Ref sig .tc := ⟨.hbm, 222, rfl⟩
abbrev main_call4_v1 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_v169 : Ref sig .tc := ⟨.hbm, 227, rfl⟩
abbrev main_v170 : Ref sig .tc := ⟨.hbm, 228, rfl⟩
abbrev main_v171 : Ref sig .tc := ⟨.hbm, 229, rfl⟩
abbrev main_cst_12 : Ref sig .tc := ⟨.hbm, 230, rfl⟩
abbrev main_v172 : Ref sig .tc := ⟨.hbm, 231, rfl⟩
abbrev main_v173 : Ref sig .tc := ⟨.hbm, 232, rfl⟩
abbrev main_cst_13 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩
abbrev main_v177 : Ref sig .tc := ⟨.hbm, 237, rfl⟩
abbrev main_v178 : Ref sig .tc := ⟨.hbm, 238, rfl⟩
abbrev main_cst_14 : Ref sig .tc := ⟨.hbm, 239, rfl⟩
abbrev main_v179 : Ref sig .tc := ⟨.hbm, 240, rfl⟩
abbrev main_v180 : Ref sig .tc := ⟨.hbm, 241, rfl⟩
abbrev main_cst_15 : Ref sig .tc := ⟨.hbm, 242, rfl⟩
abbrev main_v181 : Ref sig .tc := ⟨.hbm, 243, rfl⟩
abbrev main_v182 : Ref sig .tc := ⟨.hbm, 244, rfl⟩
abbrev main_v183 : Ref sig .tc := ⟨.hbm, 245, rfl⟩
abbrev main_v184 : Ref sig .tc := ⟨.hbm, 246, rfl⟩
abbrev main_cst_16 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_v193 : Ref sig .tc := ⟨.hbm, 256, rfl⟩
abbrev main_v194 : Ref sig .tc := ⟨.hbm, 257, rfl⟩
abbrev main_v195 : Ref sig .tc := ⟨.hbm, 258, rfl⟩
abbrev main_v196 : Ref sig .tc := ⟨.hbm, 259, rfl⟩
abbrev main_v197 : Ref sig .tc := ⟨.hbm, 260, rfl⟩

abbrev nD : Nat := 1
abbrev τ : Topo := Topo.v7x

variable {F : FTy → Type} [FloatOps F]
-- ==== Proof.LitPiecesFeat.lean ====
/-
  The hidden features the first point stores, as a function of the arrays the body reads.
  Here for the kernel whose constant is not named, with the definitions of what the two points store.
-/
module

public import proofs.«01_k».proof.Proof.LitRunLast
public import Idealize.ShloMosaic.Lib.VecWindow

@[expose] public section

set_option maxRecDepth 16384

noncomputable section

namespace Cert.Kernel.Hand

open Cert.Kernel Cert.Kernel.Gen
open Idealize.ShloMosaic Idealize.ShloMosaic.TcCoe

variable {F : FTy → Type} [FloatOps F]

/-- The feature scratch after the first grid point, from the arrays loaded: features, the two hidden layers' weights and
    offsets, gains, offsets. -/
def firstOut (x : Vec F S2048x128 .f32) (w1 : Vec F S128x64 .f32) (b1 : Vec F S1x64 .f32) (w2 : Vec F S64x64 .f32)
    (b2 : Vec F S1x64 .f32) (g : Vec F S1x64 .f32) (b : Vec F S1x64 .f32) : FVec F S2048x64 .f32 :=
  k0_pay45 (k0_pay2 x w1 b1 w2 b2)
    (k0_pay11 (k0_pay3 g) (k0_pay7 x w1 b1 w2 b2) (k0_pay8 x w1 b1 w2 b2))
    (k0_pay12 (k0_pay3 g) (k0_pay4 b) (k0_pay7 x w1 b1 w2 b2) (k0_pay8 x w1 b1 w2 b2))
    (k0_pay15 (k0_pay3 g) (k0_pay6 x w1 b1 w2 b2) (k0_pay7 x w1 b1 w2 b2))
    (k0_pay16 (k0_pay3 g) (k0_pay4 b) (k0_pay6 x w1 b1 w2 b2) (k0_pay7 x w1 b1 w2 b2))
    (k0_pay19 (k0_pay3 g) (k0_pay6 x w1 b1 w2 b2) (k0_pay7 x w1 b1 w2 b2))
    (k0_pay20 (k0_pay3 g) (k0_pay4 b) (k0_pay6 x w1 b1 w2 b2) (k0_pay7 x w1 b1 w2 b2))
    (k0_pay21 (k0_pay6 x w1 b1 w2 b2))
    (k0_pay22 (k0_pay6 x w1 b1 w2 b2) (k0_pay7 x w1 b1 w2 b2))
    (k0_pay23 (k0_pay3 g) (k0_pay6 x w1 b1 w2 b2) (k0_pay7 x w1 b1 w2 b2))
    (k0_pay24 (k0_pay4 b)) (k0_pay25 (k0_pay3 g))

/-- The output after the last grid point, from the row scratch, the gains and the offsets. -/
def lastOut (z : Vec F S2048x128 .f32) (g : Vec F S1x128 .f32) (b : Vec F S1x128 .f32) : FVec F S2048x128 .f32 :=
  k0_pay1 z (k0_pay26 g) (k0_pay27 b) (k0_pay30 z) (k0_pay33 z g) (k0_pay34 z g b)
    (k0_pay38 (k0_pay26 g) (k0_pay35 z) (k0_pay36 z))
    (k0_pay39 (k0_pay26 g) (k0_pay27 b) (k0_pay35 z) (k0_pay36 z))
    (k0_pay42 (k0_pay26 g) (k0_pay29 z) (k0_pay30 z))
    (k0_pay43 (k0_pay26 g) (k0_pay27 b) (k0_pay29 z) (k0_pay30 z))
    (k0_pay44 (k0_pay29 z))

/-- The rows one grid point writes, from the arrays loaded: its own points, all points (turned), its own normals, all
    normals (turned), its own frames, the features, the second mixing weights' offset row, the first mixing weights
    and offsets (scalars), the second mixing weights' rows, and the two output layers. -/
def midOut (v5 : Vec F S1024x3 .f32) (v8 : Vec F S3x2048 .f32) (v13 : Vec F S1024x3 .f32) (v33 : Vec F S3x2048 .f32)
    (v43 : Vec F S1024x9 .f32) (v46 : Vec F S2048x64 .f32) (v48 : Vec F S1x64 .f32) (a : Fin 8 → Fin 3 → Elt F .f32)
    (b : Fin 8 → Elt F .f32) (r : Fin 8 → Vec F S1x64 .f32) (v300 : Vec F S64x128 .f32) (v303 : Vec F S1x128 .f32)
    (v312 : Vec F S128x128 .f32) (v315 : Vec F S1x128 .f32) : FVec F S1024x128 .f32 :=
  have v7 := k0_pay46 v5
  have v11 := k0_pay47 v8
  have v16 := k0_pay49 (F := F)
  have v36 := k0_pay50 v13 v33
  have v37 := k0_pay51 v5 v8 v13 v33
  have v41 := k0_pay52 v36 v37
  have v44 := k0_pay53 v43
  have v45 := k0_pay54 v11 v16
  have v51 := k0_pay55 v36 v37 v46 v48
  have v77 := k0_pay56 v7 v11 v16 v36 v37 v43 v46 (a 0 0) (a 0 1) (a 0 2) (b 0)
  have v113 := k0_pay57 v7 v41 v44 v45 v46 v51 v77 (r 0) (a 1 0) (a 1 1) (a 1 2) (b 1) (r 1)
  have v144 := k0_pay61 v7 v41 v44 v45 v46 v113 (k0_pay58 v44 (a 2 0)) (k0_pay59 v44) (k0_pay60 (a 2 1)) (a 2 2) (b 2) (r 2)
  have v175 := k0_pay65 v41 v45 v46 v144 (k0_pay62 v44 (a 3 0) (a 3 1) (a 3 2)) (k0_pay63 v7 v44 (a 3 0) (a 3 1) (a 3 2)) (k0_pay64 (b 3)) (r 3)
  have v205 := k0_pay66 v7 v41 v44 v45 v46 (a 4 0) (a 4 1) (a 4 2) (b 4) (r 4)
  have v237 := k0_pay67 v7 v41 v44 v45 v46 v175 v205 (a 5 0) (a 5 1) (a 5 2) (b 5) (r 5)
  have v268 := k0_pay69 v7 v41 v44 v45 v46 v237 (k0_pay68 v44 (a 6 0) (a 6 1)) (a 6 2) (b 6) (r 6)
  have v290 := k0_pay70 v7 v44 v45 (a 7 0) (a 7 1) (a 7 2) (b 7)
  k0_pay71 v41 v46 v268 v290 (r 7) v300 v303 v312 v315

/-- A load of everything of a whole memref reads the contents. -/
theorem load_full {κ : Kind} {sp : Space} {s : Shape} {e : EltTy} (m : Memref sig κ sp s e) (h : m.IsWhole) (x : Vec F s e)
    {off : Fin s.rank → ℕ} (inb : ∀ a, off a + s.size a ≤ s.size a) :
    View.readAt (Elt F) m.view (Rect.unit off s.size inb).toLoadRect (h.unread x) = x := by
  rw [View.readAt_full]; exact h.read_unread x

/-- A load of a block of a whole memref reads the block of the contents. -/
theorem load_window {κ : Kind} {sp : Space} {s : Shape} {e : EltTy} (m : Memref sig κ sp s e) (h : m.IsWhole) (x : Vec F s e)
    {off size : Fin s.rank → ℕ} (inb : ∀ a, off a + size a ≤ s.size a) :
    View.readAt (Elt F) m.view (Rect.unit off size inb).toLoadRect (h.unread x) = VecWindow.window x off size inb := by
  rw [View.readAt_unit _ _ inb rfl inb]; exact congrArg (fun z => VecWindow.window z off size inb) (h.read_unread x)

/-- A value of the first branch by its payload (r). -/
theorem first_r (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.r c arg6 harg6 arg7 harg7 arg8 harg8 arg9 harg9 arg10 harg10 x5 x6 x7 x8 x9
      = k0_pay2 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (r_1). -/
theorem first_r_1 (c : Dev nD) (arg11 : Memref sig .tc .vmem S1x64 .f32) (harg11 : arg11.IsWhole) (x10 : Vec F S1x64 .f32) :
    runFirst.sl.r_1 c arg11 harg11 x10
      = k0_pay3 (F := F) (View.readAt (Elt F) arg11.view (Rect.unit ![0, 0] S1x64.size inb_S1x64_S1x64_0_0).toLoadRect (harg11.unread x10)) := rfl

/-- A value of the first branch by its payload (r_2). -/
theorem first_r_2 (c : Dev nD) (arg12 : Memref sig .tc .vmem S1x64 .f32) (harg12 : arg12.IsWhole) (x11 : Vec F S1x64 .f32) :
    runFirst.sl.r_2 c arg12 harg12 x11
      = k0_pay4 (F := F) (View.readAt (Elt F) arg12.view (Rect.unit ![0, 0] S1x64.size inb_S1x64_S1x64_0_0).toLoadRect (harg12.unread x11)) := rfl

/-- A value of the first branch by its payload (r_3). -/
theorem first_r_3 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.r_3 c arg6 harg6 arg7 harg7 arg8 harg8 arg9 harg9 arg10 harg10 x5 x6 x7 x8 x9
      = k0_pay6 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (r_4). -/
theorem first_r_4 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.r_4 c arg6 harg6 arg7 harg7 arg8 harg8 arg9 harg9 arg10 harg10 x5 x6 x7 x8 x9
      = k0_pay7 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (r_5). -/
theorem first_r_5 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.r_5 c arg6 harg6 arg7 harg7 arg8 harg8 arg9 harg9 arg10 harg10 x5 x6 x7 x8 x9
      = k0_pay8 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (r_6). -/
theorem first_r_6 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.r_6 c arg6 harg6 arg7 harg7 arg8 harg8 arg9 harg9 arg10 harg10 arg11 harg11 x5 x6 x7 x8 x9 x10
      = k0_pay11 (F := F) (runFirst.sl.r_1 c arg11 harg11 x10) (runFirst.sl.r_4 c arg6 harg6 arg7 harg7 arg8 harg8 arg9 harg9 arg10 harg10 x5 x6 x7 x8 x9) (runFirst.sl.r_5 c arg6 harg6 arg7 harg7 arg8 harg8 arg9 harg9 arg10 harg10 x5 x6 x7 x8 x9) := rfl

/-- A value of the first branch by its payload (r_7). -/
theorem first_r_7 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) :
    runFirst.sl.r_7 c arg6 harg6 arg7 harg7 arg8 harg8 arg9 harg9 arg10 harg10 arg11 harg11 arg12 harg12 x5 x6 x7 x8 x9 x10 x11
      = k0_pay12 (F := F) (runFirst.sl.r_1 c arg11 harg11 x10) (runFirst.sl.r_2 c arg12 harg12 x11) (runFirst.sl.r_4 c arg6 harg6 arg7 harg7 arg8 harg8 arg9 harg9 arg10 harg10 x5 x6 x7 x8 x9) (runFirst.sl.r_5 c arg6 harg6 arg7 harg7 arg8 harg8 arg9 harg9 arg10 harg10 x5 x6 x7 x8 x9) := rfl

/-- A value of the first branch by its payload (r_8). -/
theorem first_r_8 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.r_8 c arg6 harg6 arg7 harg7 arg8 harg8 arg9 harg9 arg10 harg10 arg11 harg11 x5 x6 x7 x8 x9 x10
      = k0_pay15 (F := F) (runFirst.sl.r_1 c arg11 harg11 x10) (runFirst.sl.r_3 c arg6 harg6 arg7 harg7 arg8 harg8 arg9 harg9 arg10 harg10 x5 x6 x7 x8 x9) (runFirst.sl.r_4 c arg6 harg6 arg7 harg7 arg8 harg8 arg9 harg9 arg10 harg10 x5 x6 x7 x8 x9) := rfl

/-- A value of the first branch by its payload (r_9). -/
theorem first_r_9 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) :
    runFirst.sl.r_9 c arg6 harg6 arg7 harg7 arg8 harg8 arg9 harg9 arg10 harg10 arg11 harg11 arg12 harg12 x5 x6 x7 x8 x9 x10 x11
      = k0_pay16 (F := F) (runFirst.sl.r_1 c arg11 harg11 x10) (runFirst.sl.r_2 c arg12 harg12 x11) (runFirst.sl.r_3 c arg6 harg6 arg7 harg7 arg8 harg8 arg9 harg9 arg10 harg10 x5 x6 x7 x8 x9) (runFirst.sl.r_4 c arg6 harg6 arg7 harg7 arg8 harg8 arg9 harg9 arg10 harg10 x5 x6 x7 x8 x9) := rfl

/-- A value of the first branch by its payload (r_10). -/
theorem first_r_10 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.r_10 c arg6 harg6 arg7 harg7 arg8 harg8 arg9 harg9 arg10 harg10 arg11 harg11 x5 x6 x7 x8 x9 x10
      = k0_pay19 (F := F) (runFirst.sl.r_1 c arg11 harg11 x10) (runFirst.sl.r_3 c arg6 harg6 arg7 harg7 arg8 harg8 arg9 harg9 arg10 harg10 x5 x6 x7 x8 x9) (runFirst.sl.r_4 c arg6 harg6 arg7 harg7 arg8 harg8 arg9 harg9 arg10 harg10 x5 x6 x7 x8 x9) := rfl

/-- A value of the first branch by its payload (r_11). -/
theorem first_r_11 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) :
    runFirst.sl.r_11 c arg6 harg6 arg7 harg7 arg8 harg8 arg9 harg9 arg10 harg10 arg11 harg11 arg12 harg12 x5 x6 x7 x8 x9 x10 x11
      = k0_pay20 (F := F) (runFirst.sl.r_1 c arg11 harg11 x10) (runFirst.sl.r_2 c arg12 harg12 x11) (runFirst.sl.r_3 c arg6 harg6 arg7 harg7 arg8 harg8 arg9 harg9 arg10 harg10 x5 x6 x7 x8 x9) (runFirst.sl.r_4 c arg6 harg6 arg7 harg7 arg8 harg8 arg9 harg9 arg10 harg10 x5 x6 x7 x8 x9) := rfl

/-- A value of the first branch by its payload (r_12). -/
theorem first_r_12 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.r_12 c arg6 harg6 arg7 harg7 arg8 harg8 arg9 harg9 arg10 harg10 x5 x6 x7 x8 x9
      = k0_pay21 (F := F) (runFirst.sl.r_3 c arg6 harg6 arg7 harg7 arg8 harg8 arg9 harg9 arg10 harg10 x5 x6 x7 x8 x9) := rfl

/-- A value of the first branch by its payload (r_13). -/
theorem first_r_13 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.r_13 c arg6 harg6 arg7 harg7 arg8 harg8 arg9 harg9 arg10 harg10 x5 x6 x7 x8 x9
      = k0_pay22 (F := F) (runFirst.sl.r_3 c arg6 harg6 arg7 harg7 arg8 harg8 arg9 harg9 arg10 harg10 x5 x6 x7 x8 x9) (runFirst.sl.r_4 c arg6 harg6 arg7 harg7 arg8 harg8 arg9 harg9 arg10 harg10 x5 x6 x7 x8 x9) := rfl

/-- A value of the first branch by its payload (r_14). -/
theorem first_r_14 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.r_14 c arg6 harg6 arg7 harg7 arg8 harg8 arg9 harg9 arg10 harg10 arg11 harg11 x5 x6 x7 x8 x9 x10
      = k0_pay23 (F := F) (runFirst.sl.r_1 c arg11 harg11 x10) (runFirst.sl.r_3 c arg6 harg6 arg7 harg7 arg8 harg8 arg9 harg9 arg10 harg10 x5 x6 x7 x8 x9) (runFirst.sl.r_4 c arg6 harg6 arg7 harg7 arg8 harg8 arg9 harg9 arg10 harg10 x5 x6 x7 x8 x9) := rfl

/-- A value of the first branch by its payload (r_15). -/
theorem first_r_15 (c : Dev nD) (arg12 : Memref sig .tc .vmem S1x64 .f32) (harg12 : arg12.IsWhole) (x11 : Vec F S1x64 .f32) :
    runFirst.sl.r_15 c arg12 harg12 x11
      = k0_pay24 (F := F) (runFirst.sl.r_2 c arg12 harg12 x11) := rfl

/-- A value of the first branch by its payload (r_16). -/
theorem first_r_16 (c : Dev nD) (arg11 : Memref sig .tc .vmem S1x64 .f32) (harg11 : arg11.IsWhole) (x10 : Vec F S1x64 .f32) :
    runFirst.sl.r_16 c arg11 harg11 x10
      = k0_pay25 (F := F) (runFirst.sl.r_1 c arg11 harg11 x10) := rfl

set_option maxHeartbeats 1000000 in
/-- The hidden features the first point stores. -/
theorem runFirst_feat (c : Dev nD) (i : grid0.Coords) (arg1 : Memref sig .tc .vmem S2048x3 .f32) (harg1 : arg1.IsWhole) (arg2 : Memref sig .tc .vmem S3x2048 .f32) (harg2 : arg2.IsWhole) (arg3 : Memref sig .tc .vmem S2048x3 .f32) (harg3 : arg3.IsWhole) (arg4 : Memref sig .tc .vmem S3x2048 .f32) (harg4 : arg4.IsWhole) (arg5 : Memref sig .tc .vmem S2048x9 .f32) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .smem S8x3 .f32) (harg13 : arg13.IsWhole) (arg14 : Memref sig .tc .smem S8 .f32) (harg14 : arg14.IsWhole) (arg15 : Memref sig .tc .vmem S8x64 .f32) (harg15 : arg15.IsWhole) (arg16 : Memref sig .tc .vmem S1x64 .f32) (harg16 : arg16.IsWhole) (arg17 : Memref sig .tc .vmem S64x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S2048x128 .f32) (harg23 : arg23.IsWhole) (arg24 : Memref sig .tc .vmem S2048x64 .f32) (harg24 : arg24.IsWhole) (arg25 : Memref sig .tc .vmem S2048x128 .f32) (harg25 : arg25.IsWhole) (hc0 : first i) (hc1 : ¬last i)
    (x0 : Vec F S2048x3 .f32) (x1 : Vec F S3x2048 .f32) (x2 : Vec F S2048x3 .f32) (x3 : Vec F S3x2048 .f32) (x4 : Vec F S2048x9 .f32) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) (x12 : Vec F S8x3 .f32) (x13 : Vec F S8 .f32) (x14 : Vec F S8x64 .f32) (x15 : Vec F S1x64 .f32) (x16 : Vec F S64x128 .f32) (x17 : Vec F S1x128 .f32) (x18 : Vec F S128x128 .f32) (x19 : Vec F S1x128 .f32) (x20 : Vec F S1x128 .f32) (x21 : Vec F S1x128 .f32) (xo : Vec F S2048x128 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xo).1.1
      = [⟨Rect.unit (s := S2048x64) ![0, 0] S2048x64.size inb_S2048x64_S2048x64_0_0, firstOut x5 x6 x7 x8 x9 x10 x11⟩] := by
  have h : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xo).1.1
      = [⟨Rect.unit (s := S2048x64) ![0, 0] S2048x64.size inb_S2048x64_S2048x64_0_0, k0_pay45 (runFirst.sl.r c arg6 harg6 arg7 harg7 arg8 harg8 arg9 harg9 arg10 harg10 x5 x6 x7 x8 x9) (runFirst.sl.r_6 c arg6 harg6 arg7 harg7 arg8 harg8 arg9 harg9 arg10 harg10 arg11 harg11 x5 x6 x7 x8 x9 x10) (runFirst.sl.r_7 c arg6 harg6 arg7 harg7 arg8 harg8 arg9 harg9 arg10 harg10 arg11 harg11 arg12 harg12 x5 x6 x7 x8 x9 x10 x11) (runFirst.sl.r_8 c arg6 harg6 arg7 harg7 arg8 harg8 arg9 harg9 arg10 harg10 arg11 harg11 x5 x6 x7 x8 x9 x10) (runFirst.sl.r_9 c arg6 harg6 arg7 harg7 arg8 harg8 arg9 harg9 arg10 harg10 arg11 harg11 arg12 harg12 x5 x6 x7 x8 x9 x10 x11) (runFirst.sl.r_10 c arg6 harg6 arg7 harg7 arg8 harg8 arg9 harg9 arg10 harg10 arg11 harg11 x5 x6 x7 x8 x9 x10) (runFirst.sl.r_11 c arg6 harg6 arg7 harg7 arg8 harg8 arg9 harg9 arg10 harg10 arg11 harg11 arg12 harg12 x5 x6 x7 x8 x9 x10 x11) (runFirst.sl.r_12 c arg6 harg6 arg7 harg7 arg8 harg8 arg9 harg9 arg10 harg10 x5 x6 x7 x8 x9) (runFirst.sl.r_13 c arg6 harg6 arg7 harg7 arg8 harg8 arg9 harg9 arg10 harg10 x5 x6 x7 x8 x9) (runFirst.sl.r_14 c arg6 harg6 arg7 harg7 arg8 harg8 arg9 harg9 arg10 harg10 arg11 harg11 x5 x6 x7 x8 x9 x10) (runFirst.sl.r_15 c arg12 harg12 x11) (runFirst.sl.r_16 c arg11 harg11 x10)⟩] := rfl
  rw [h]
  have e6 : (View.readAt (Elt F) arg6.view (Rect.unit ![0, 0] S2048x128.size inb_S2048x128_S2048x128_0_0).toLoadRect (harg6.unread x5)) = x5 := load_full arg6 harg6 x5 _
  have e7 : (View.readAt (Elt F) arg7.view (Rect.unit ![0, 0] S128x64.size inb_S128x64_S128x64_0_0).toLoadRect (harg7.unread x6)) = x6 := load_full arg7 harg7 x6 _
  have e8 : (View.readAt (Elt F) arg8.view (Rect.unit ![0, 0] S1x64.size inb_S1x64_S1x64_0_0).toLoadRect (harg8.unread x7)) = x7 := load_full arg8 harg8 x7 _
  have e9 : (View.readAt (Elt F) arg9.view (Rect.unit ![0, 0] S64x64.size inb_S64x64_S64x64_0_0).toLoadRect (harg9.unread x8)) = x8 := load_full arg9 harg9 x8 _
  have e10 : (View.readAt (Elt F) arg10.view (Rect.unit ![0, 0] S1x64.size inb_S1x64_S1x64_0_0).toLoadRect (harg10.unread x9)) = x9 := load_full arg10 harg10 x9 _
  have e11 : (View.readAt (Elt F) arg11.view (Rect.unit ![0, 0] S1x64.size inb_S1x64_S1x64_0_0).toLoadRect (harg11.unread x10)) = x10 := load_full arg11 harg11 x10 _
  have e12 : (View.readAt (Elt F) arg12.view (Rect.unit ![0, 0] S1x64.size inb_S1x64_S1x64_0_0).toLoadRect (harg12.unread x11)) = x11 := load_full arg12 harg12 x11 _
  simp only [first_r, first_r_1, first_r_2, first_r_3, first_r_4, first_r_5, first_r_6, first_r_7, first_r_8, first_r_9, first_r_10, first_r_11, first_r_12, first_r_13, first_r_14, first_r_15, first_r_16]
  show [(⟨Rect.unit (s := S2048x64) ![0, 0] S2048x64.size inb_S2048x64_S2048x64_0_0, firstOut (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) (View.readAt (Elt F) arg11.view (Rect.unit ![0, 0] S1x64.size inb_S1x64_S1x64_0_0).toLoadRect (harg11.unread x10)) (View.readAt (Elt F) arg12.view (Rect.unit ![0, 0] S1x64.size inb_S1x64_S1x64_0_0).toLoadRect (harg12.unread x11))⟩ : View.Piece (Elt F) S2048x64 .f32)] = _
  rw [e6, e7, e8, e9, e10, e11, e12]

end Cert.Kernel.Hand

end
-- ==== Proof.Algebra.lean ====
module

public import Idealize.ShloMosaic.PureOps.Ideal
public import Idealize.ShloMosaic.Lib.Pointwise.Tactic
public import Mathlib.Algebra.BigOperators.Field

@[expose] public section

/-! Extended-real algebra of the layer, free of any program: sums over extended reals, the
    normalisation of one group, the window between two points, and the relative normal product. -/

noncomputable section

namespace Cert.Algebra

open Idealize.ShloMosaic
open scoped BigOperators

/-! ### Sums -/

/-- A finite sum of real numbers is the same taken among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum with an infinite term is infinite. -/
theorem sum_infinite {ι : Type} [DecidableEq ι] (s : Finset ι) (f : ι → EReal) (i : ι) (hi : i ∈ s) (h : f i = ⊤ ∨ f i = ⊥) :
    (∑ j ∈ s, f j) = ⊤ ∨ (∑ j ∈ s, f j) = ⊥ := by
  rw [← Finset.add_sum_erase s f hi]
  rcases h with h | h
  · rw [h]
    generalize (∑ j ∈ s.erase i, f j) = x
    induction x with
    | bot => right; rfl
    | top => left; rfl
    | coe r => left; exact EReal.top_add_coe r
  · right; rw [h, EReal.bot_add]

/-- A sum of terms that are nowhere negative, one of them `⊤`, is `⊤`. -/
theorem sum_top {ι : Type} [DecidableEq ι] (s : Finset ι) (f : ι → EReal) (i : ι) (hi : i ∈ s) (h : f i = ⊤) (h0 : ∀ j ∈ s, 0 ≤ f j) :
    (∑ j ∈ s, f j) = ⊤ := by
  have hle := Finset.single_le_sum (f := f) h0 hi
  rw [h] at hle
  exact top_le_iff.mp hle

/-- An extended real times itself is not negative. -/
theorem mul_self_nonneg' (x : EReal) : 0 ≤ x * x := by
  induction x with
  | bot => simp
  | top => simp
  | coe r => rw [← EReal.coe_mul]; exact_mod_cast mul_self_nonneg r

/-! ### Quotients -/

/-- The quotient of two real numbers, the divisor not zero. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- Anything over `⊤` is zero. -/
theorem div_top (x : EReal) : Ideal.div x ⊤ = 0 := by
  unfold Ideal.div; rw [if_neg (by simp), EReal.inv_top, mul_zero]

/-- Anything over `⊥` is zero. -/
theorem div_bot (x : EReal) : Ideal.div x ⊥ = 0 := by
  unfold Ideal.div; rw [if_neg (by simp), EReal.inv_bot, mul_zero]

/-- `⊤` over a positive real is `⊤`. -/
theorem top_div (N : ℝ) (hN : 0 < N) : Ideal.div ⊤ (N : EReal) = ⊤ := by
  unfold Ideal.div
  rw [if_neg (by exact_mod_cast hN.ne'), ← EReal.coe_inv]
  exact EReal.top_mul_coe_of_pos (inv_pos.mpr hN)

/-- `⊥` over a positive real is `⊥`. -/
theorem bot_div (N : ℝ) (hN : 0 < N) : Ideal.div ⊥ (N : EReal) = ⊥ := by
  unfold Ideal.div
  rw [if_neg (by exact_mod_cast hN.ne'), ← EReal.coe_inv]
  exact EReal.bot_mul_coe_of_pos (inv_pos.mpr hN)

/-- The root of a positive real. -/
theorem sqrt_pos (a : ℝ) (ha : 0 < a) : Ideal.sqrt (a : EReal) = ((Real.sqrt a : ℝ) : EReal) := by
  rw [Ideal.sqrt_coe, if_neg (not_lt.mpr ha.le)]

/-! ### The normalisation of one group -/

/-- The mean of squares less the square of the mean is the mean of the squared deviations. -/
theorem variance {ι : Type} [Fintype ι] (r : ι → ℝ) (N : ℝ) (hN : 0 < N) (hc : (Fintype.card ι : ℝ) = N) :
    (∑ i, r i * r i) / N - (∑ i, r i) / N * ((∑ i, r i) / N)
      = (∑ i, (r i - (∑ i, r i) / N) * (r i - (∑ i, r i) / N)) / N := by
  generalize hS : (∑ i, r i) = S
  have h : (∑ i, (r i - S / N) * (r i - S / N)) = (∑ i, r i * r i) - 2 * (S / N) * S + N * ((S / N) * (S / N)) := by
    have h1 : ∀ i, (r i - S / N) * (r i - S / N) = r i * r i - 2 * (S / N) * r i + (S / N) * (S / N) := fun i => by ring
    rw [Finset.sum_congr rfl fun i _ => h1 i, Finset.sum_add_distrib, Finset.sum_sub_distrib, ← Finset.mul_sum, hS,
      Finset.sum_const, Finset.card_univ, nsmul_eq_mul, hc]
  rw [h]
  field_simp
  ring

/-- THE NORMALISATION OF ONE ENTRY. One sweep (the mean and the mean of squares, then scale and shift folded
    into one factor and one offset) and two sweeps (the mean, then the mean squared deviation) give an entry
    the same value, whatever the entries and the offset `β`, when the gain `g` is real. With every entry real
    it is ordinary algebra. With an infinite entry the mean is infinite, both reciprocal deviations are zero,
    and both sides are `β`. -/
theorem norm_entry {ι : Type} [Fintype ι] [DecidableEq ι] (y : ι → EReal) (i : ι) (g : ℝ) (β : EReal) (N ε : ℝ) (hN : 0 < N)
    (hε : 0 < ε) (hc : (Fintype.card ι : ℝ) = N) (m q : EReal) (hm : m = Ideal.div (∑ j, y j) (N : EReal))
    (hq : q = Ideal.div (∑ j, y j * y j) (N : EReal)) :
    y i * ((g : EReal) * Ideal.div 1 (Ideal.sqrt (q - m * m + (ε : EReal))))
        + (β - (g : EReal) * (m * Ideal.div 1 (Ideal.sqrt (q - m * m + (ε : EReal)))))
      = Ideal.div (y i - m) (Ideal.sqrt (Ideal.div (∑ j, (y j - m) * (y j - m)) (N : EReal) + (ε : EReal))) * (g : EReal) + β := by
  by_cases hall : ∀ j, y j ≠ ⊤ ∧ y j ≠ ⊥
  · -- every entry is real
    obtain ⟨r, rfl⟩ : ∃ r : ι → ℝ, y = fun j => (r j : EReal) :=
      ⟨fun j => (y j).toReal, funext fun j => (EReal.coe_toReal (hall j).1 (hall j).2).symm⟩
    have hm' : m = (((∑ j, r j) / N : ℝ) : EReal) := by rw [hm, ← coe_sum, div_real _ _ hN.ne']
    have hq' : q = (((∑ j, r j * r j) / N : ℝ) : EReal) := by
      rw [hq, ← div_real _ _ hN.ne', coe_sum]; simp only [EReal.coe_mul]
    have hv := variance r N hN hc
    have hvn : 0 ≤ (∑ j, (r j - (∑ i, r i) / N) * (r j - (∑ i, r i) / N)) / N :=
      div_nonneg (Finset.sum_nonneg fun j _ => mul_self_nonneg _) hN.le
    have hd : (∑ j, ((r j : EReal) - m) * ((r j : EReal) - m))
        = ((∑ j, (r j - (∑ i, r i) / N) * (r j - (∑ i, r i) / N) : ℝ) : EReal) := by
      rw [coe_sum, hm']; simp only [EReal.coe_mul, EReal.coe_sub]
    rw [hd, div_real _ _ hN.ne', hq', hm', ← EReal.coe_mul, ← EReal.coe_sub, ← EReal.coe_add, ← EReal.coe_add, hv]
    generalize (∑ j, (r j - (∑ i, r i) / N) * (r j - (∑ i, r i) / N)) / N = V at *
    generalize (∑ j, r j) / N = M at *
    have hpos : 0 < V + ε := by linarith
    have hs : Real.sqrt (V + ε) ≠ 0 := (Real.sqrt_pos.mpr hpos).ne'
    rw [sqrt_pos _ hpos, ← EReal.coe_one, div_real _ _ hs, ← EReal.coe_sub, div_real _ _ hs, ← EReal.coe_mul, ← EReal.coe_mul,
      ← EReal.coe_mul, ← EReal.coe_mul, ← EReal.coe_mul, sub_eq_add_neg, ← EReal.coe_neg, add_comm β, ← add_assoc, ← EReal.coe_add]
    congr 2
    field_simp
    ring
  · -- some entry is infinite
    push Not at hall
    obtain ⟨k, hk⟩ := hall
    have hk' : y k = ⊤ ∨ y k = ⊥ := by
      by_cases h : y k = ⊤
      · exact .inl h
      · exact .inr (hk h)
    have hm' : m = ⊤ ∨ m = ⊥ := by
      rcases sum_infinite Finset.univ y k (Finset.mem_univ k) hk' with h | h
      · left; rw [hm, h, top_div N hN]
      · right; rw [hm, h, bot_div N hN]
    have hq' : q = ⊤ := by
      rw [hq, sum_top Finset.univ (fun j => y j * y j) k (Finset.mem_univ k) (by rcases hk' with h | h <;> simp [h])
        fun j _ => mul_self_nonneg' _, top_div N hN]
    have hmm : m * m = ⊤ := by rcases hm' with h | h <;> simp [h]
    have hdk : (y k - m) * (y k - m) = ⊤ := by
      rcases hm' with h | h <;> rcases hk' with h' | h' <;> rw [h, h'] <;> simp [sub_eq_add_neg]
    rw [hq', hmm, sum_top Finset.univ (fun j => (y j - m) * (y j - m)) k (Finset.mem_univ k) hdk fun j _ => mul_self_nonneg' _,
      top_div N hN]
    have h1 : (⊤ : EReal) - ⊤ + (ε : EReal) = ⊥ := by rw [sub_eq_add_neg, EReal.neg_top, EReal.add_bot, EReal.bot_add]
    rw [h1, Ideal.sqrt_bot, div_bot, EReal.top_add_coe, Ideal.sqrt_top, div_top]
    simp

/-! ### Slope on the negative side -/

/-- The identity on the half line from zero up, a factor of `1/5` (rounded to the storage format) below. -/
def leaky (x : EReal) : EReal := if (0 : EReal) ≤ x then x else Ideal.ofBits .f32 0x3E4CCCCD#32 * x

/-! ### The window between two points and the relative position -/

/-- The squared distance by products: `−2 x·y + |x|² + |y|²` is the sum of squared differences. -/
theorem dist_sq (x y : Fin 3 → ℝ) :
    ((x 0 * (-2) * y 0 + x 1 * (-2) * y 1 + x 2 * (-2) * y 2) + (∑ a, x a * x a) + (∑ a, y a * y a) : ℝ) = ∑ a, (y a - x a) * (y a - x a) := by
  rw [Fin.sum_univ_three, Fin.sum_univ_three, Fin.sum_univ_three]; ring

end Cert.Algebra
-- ==== Proof.Layer.lean ====
module

public import proofs.«01_k».proof.Proof.Algebra

@[expose] public section

/-! The layer as plain functions of coordinates, in the two spellings that meet: the one the kernel
    computes (suffix `1` for the one-sweep normalisation, `K` for the rest) and the one the
    problem states (suffix `2`, `R`). The theorems say where the two spellings agree. -/

noncomputable section

namespace Cert.Layer

open Idealize.ShloMosaic Cert.Algebra
open scoped BigOperators

/-! ### Dense layer -/

/-- One row through a dense layer: weights, offset, then the slope. -/
def dense {k o : ℕ} (x : Fin k → EReal) (w : Fin k → Fin o → EReal) (b : Fin o → EReal) (c : Fin o) : EReal :=
  leaky (∑ a, x a * w a c + b c)

/-! ### Group normalisation -/

/-- The columns of the group that column `c` of 64 lies in (four groups of sixteen). -/
def col64 (c : Fin 64) (k : Fin 16) : Fin 64 := ⟨c.val / 16 * 16 + k.val, by have := c.isLt; have := k.isLt; omega⟩

/-- The columns of the group that column `c` of 128 lies in (four groups of thirty-two). -/
def col128 (c : Fin 128) (k : Fin 32) : Fin 128 := ⟨c.val / 32 * 32 + k.val, by have := c.isLt; have := k.isLt; omega⟩

/-- The mean over a group of columns and all rows. -/
def mean {n C K : ℕ} (col : Fin C → Fin K → Fin C) (N : EReal) (x : Fin n → Fin C → EReal) (c : Fin C) : EReal :=
  Ideal.div (∑ k, ∑ p, x p (col c k)) N

/-- The reciprocal deviation by one sweep: from the mean of squares less the square of the mean. -/
def inv1 {n C K : ℕ} (col : Fin C → Fin K → Fin C) (N ε : EReal) (x : Fin n → Fin C → EReal) (c : Fin C) : EReal :=
  Ideal.div 1 (Ideal.sqrt (Ideal.div (∑ k, ∑ p, x p (col c k) * x p (col c k)) N - mean col N x c * mean col N x c + ε))

/-- Group normalisation as the kernel computes it: one factor and one offset per column. -/
def norm1 {n C K : ℕ} (col : Fin C → Fin K → Fin C) (N ε : EReal) (x : Fin n → Fin C → EReal) (γ β : Fin C → EReal)
    (p : Fin n) (c : Fin C) : EReal :=
  x p c * (γ c * inv1 col N ε x c) + (β c - γ c * (mean col N x c * inv1 col N ε x c))

/-- Group normalisation as the problem states it: the deviation from the mean over the root of the mean squared deviation. -/
def norm2 {n C K : ℕ} (col : Fin C → Fin K → Fin C) (N ε : EReal) (x : Fin n → Fin C → EReal) (γ β : Fin C → EReal)
    (p : Fin n) (c : Fin C) : EReal :=
  Ideal.div (x p c - mean col N x c)
    (Ideal.sqrt (Ideal.div (∑ k, ∑ q, (x q (col c k) - mean col N x c) * (x q (col c k) - mean col N x c)) N + ε)) * γ c + β c

/-- The two normalisations agree at every entry when the gains are real and each column lies in its own group. -/
theorem norm1_eq_norm2 {n C K : ℕ} (col : Fin C → Fin K → Fin C) (N ε : ℝ) (hN : 0 < N) (hε : 0 < ε) (hc : ((K * n : ℕ) : ℝ) = N)
    (hcol : ∀ c, ∃ k, col c k = c) (x : Fin n → Fin C → EReal) (γ β : Fin C → EReal) (hγ : ∀ c, ∃ g : ℝ, γ c = (g : EReal))
    (p : Fin n) (c : Fin C) :
    norm1 col (N : EReal) (ε : EReal) x γ β p c = norm2 col (N : EReal) (ε : EReal) x γ β p c := by
  obtain ⟨k, hk⟩ := hcol c
  obtain ⟨g, hg⟩ := hγ c
  have h := norm_entry (ι := Fin K × Fin n) (fun j => x j.2 (col c j.1)) (k, p) g (β c) N ε hN hε
    (by rw [Fintype.card_prod, Fintype.card_fin, Fintype.card_fin, hc]) (mean col N x c)
    (Ideal.div (∑ k, ∑ p, x p (col c k) * x p (col c k)) N)
    (by unfold mean; rw [Fintype.sum_prod_type]) (by rw [Fintype.sum_prod_type])
  rw [Fintype.sum_prod_type] at h
  simp only [hk] at h
  unfold norm1 norm2 inv1
  rw [hg]
  exact h

/-! ### Window, relative position, heads -/

/-- Two less the product of two normals, by one product with a column of twos appended. -/
def facingK (ni nj : Fin 3 → EReal) : EReal := ∑ a, (0 - ni a) * nj a + Ideal.ofBits .f32 0x40000000#32

/-- The squared distance of two points, by one product with the two squared lengths appended. -/
def distK (xi xj : Fin 3 → EReal) : EReal :=
  ∑ a, xi a * Ideal.ofBits .f32 0xC0000000#32 * xj a + ∑ a, xi a * xi a + ∑ a, xj a * xj a

/-- The window between two points as the kernel computes it. -/
def winK (xi xj ni nj : Fin 3 → EReal) : EReal :=
  Ideal.exp ((0 - distK xi xj * facingK ni nj) * facingK ni nj)

/-- One channel's direction at a point: three weights over the point's frame. -/
def dirK (a : Fin 3 → EReal) (u : Fin 3 → Fin 3 → EReal) (x : Fin 3) : EReal := a 0 * u 0 x + a 1 * u 1 x + a 2 * u 2 x

/-- One channel of the relative position, as the kernel computes it: direction times the other point, and
    an offset that takes the direction times the own point away. Negative values are cut to zero. -/
def chanK (d xi xj : Fin 3 → EReal) (b : EReal) : EReal :=
  max (∑ a, d a * xj a + (b - ∑ a, d a * xi a)) 0

/-- One feature summed over all other points as the kernel does it: the window's sum times the offset `B`, then the eight
    channels' sums in turn, each times its weight. -/
def headK {m : ℕ} (w : Fin m → EReal) (r : Fin 8 → Fin m → EReal) (f : Fin m → EReal) (A : Fin 8 → EReal) (B : EReal) : EReal :=
  (∑ j, w j * f j) * B + (∑ j, w j * r 0 j * f j) * A 0 + (∑ j, w j * r 1 j * f j) * A 1 + (∑ j, w j * r 2 j * f j) * A 2
    + (∑ j, w j * r 3 j * f j) * A 3 + (∑ j, w j * r 4 j * f j) * A 4 + (∑ j, w j * r 5 j * f j) * A 5
    + (∑ j, w j * r 6 j * f j) * A 6 + (∑ j, w j * r 7 j * f j) * A 7

/-- Two less the product of two normals. -/
def facingR (ni nj : Fin 3 → EReal) : EReal := Ideal.ofBits .f32 0x40000000#32 - ∑ a, ni a * nj a

/-- The squared distance of two points. -/
def distR (xi xj : Fin 3 → EReal) : EReal := ∑ a, (xj a - xi a) * (xj a - xi a)

/-- The window between two points as the problem states it. -/
def winR (xi xj ni nj : Fin 3 → EReal) : EReal := Ideal.exp (-(distR xi xj * (facingR ni nj * facingR ni nj)))

/-- One channel of the relative position as the problem states it: the difference of the points in the point's frame,
    three weights, an offset, negative values cut to zero. -/
def chanR (a : Fin 3 → EReal) (u : Fin 3 → Fin 3 → EReal) (xi xj : Fin 3 → EReal) (b : EReal) : EReal :=
  max (∑ k, (∑ x, (xj x - xi x) * u k x) * a k + b) 0

/-- One feature summed over all other points as the problem states it. -/
def headR {m : ℕ} (w : Fin m → EReal) (r : Fin 8 → Fin m → EReal) (f : Fin m → EReal) (A : Fin 8 → EReal) (B : EReal) : EReal :=
  ∑ c, A c * (∑ j, w j * r c j * f j) + B * ∑ j, w j * f j

end Cert.Layer
-- ==== Proof.RefNorm.lean ====
module

public import proofs.«01_k».proof.Proof.Gen.ReferenceIdeal.Read
public import Idealize.ShloMosaic.Lib.Pointwise
public import proofs.«01_k».proof.Proof.Layer

@[expose] public section

set_option maxRecDepth 16384

/-! The reference's values read at an index: dense layers and group normalisations. -/

noncomputable section

namespace Cert.ReferenceIdeal.Hand

open Idealize.ShloMosaic Cert.ReferenceIdeal Cert.ReferenceIdeal.Gen Cert.ReferenceIdeal.Read Cert.Layer Cert.Algebra
open scoped BigOperators

variable (x0 : FVec Ideal S2048x3 .f32) (x1 : FVec Ideal S2048x3x3 .f32) (x2 : FVec Ideal S2048x128 .f32) (x3 : FVec Ideal S64x128 .f32) (x4 : FVec Ideal S64 .f32) (x5 : FVec Ideal S64x64 .f32) (x6 : FVec Ideal S64 .f32) (x7 : FVec Ideal S64 .f32) (x8 : FVec Ideal S64 .f32) (x9 : FVec Ideal S8x3 .f32) (x10 : FVec Ideal S8 .f32) (x11 : FVec Ideal S64x8 .f32) (x12 : FVec Ideal S64 .f32) (x13 : FVec Ideal S128x64 .f32) (x14 : FVec Ideal S128 .f32) (x15 : FVec Ideal S128x128 .f32) (x16 : FVec Ideal S128 .f32) (x17 : FVec Ideal S128 .f32) (x18 : FVec Ideal S128 .f32)

/-- A sum over `K` blocks of `n` entries laid end to end is the double sum. -/
theorem sum_blocks (K n : ℕ) (f : Fin (K * n) → EReal) :
    ∑ q, f q = ∑ k : Fin K, ∑ p : Fin n, f ⟨k.val * n + p.val, by
      have hk := k.isLt; have hp := p.isLt
      calc k.val * n + p.val < k.val * n + n := by omega
        _ = (k.val + 1) * n := by ring
        _ ≤ K * n := Nat.mul_le_mul_right _ hk⟩ := by
  rw [← Equiv.sum_comp finProdFinEquiv f, Fintype.sum_prod_type]
  refine Finset.sum_congr rfl fun k _ => Finset.sum_congr rfl fun p _ => congrArg f (Fin.ext ?_)
  show p.val + n * k.val = k.val * n + p.val
  ring

/-- The first hidden layer. -/
theorem hidden1 (p : Fin 2048) (c : Fin 64) :
    (val_main_v5 (F := Ideal) x2 x3 x4) (ix2 p c) = dense (fun k : Fin 128 => x2 (ix2 p k)) (fun k o => x3 (ix2 o k)) (fun o => x4 (ix1 o)) c := by
  unfold val_main_v5 val_main_call0_v4 val_main_call0_v3 val_main_call0_v2 val_main_call0_v1 val_main_call0_v0 val_main_call0_cst val_main_cst val_main_v4 val_main_v3 val_main_v2 val_main_v1 val_main_v0
  pointwise [dot_S2048x128_S128x64_S2048x64_1_0_0_1_n_n]
  rfl

/-- The second hidden layer. -/
theorem hidden2 (p : Fin 2048) (c : Fin 64) :
    (val_main_v11 (F := Ideal) x2 x3 x4 x5 x6) (ix2 p c) = dense (fun k : Fin 64 => (val_main_v5 (F := Ideal) x2 x3 x4) (ix2 p k)) (fun k o => x5 (ix2 o k)) (fun o => x6 (ix1 o)) c := by
  unfold val_main_v11 val_main_call1_v4 val_main_call1_v3 val_main_call1_v2 val_main_call1_v1 val_main_call1_v0 val_main_call1_cst val_main_cst_0 val_main_v10 val_main_v9 val_main_v8 val_main_v7 val_main_v6
  pointwise [dot_S2048x64_S64x64_S2048x64_1_0_0_1_n_n]
  rfl

/-- The first output layer. -/
theorem outer1 (p : Fin 2048) (c : Fin 128) :
    (val_main_v163 (F := Ideal) x0 x1 x2 x3 x4 x5 x6 x7 x8 x9 x10 x11 x12 x13 x14) (ix2 p c) = dense (fun k : Fin 64 => (val_main_v157 (F := Ideal) x0 x1 x2 x3 x4 x5 x6 x7 x8 x9 x10 x11 x12) (ix2 p k)) (fun k o => x13 (ix2 o k)) (fun o => x14 (ix1 o)) c := by
  unfold val_main_v163 val_main_call3_v4 val_main_call3_v3 val_main_call3_v2 val_main_call3_v1 val_main_call3_v0 val_main_call3_cst val_main_cst_10 val_main_v162 val_main_v161 val_main_v160 val_main_v159 val_main_v158
  pointwise [dot_S2048x64_S64x128_S2048x128_1_0_0_1_n_n]
  rfl

/-- The second output layer. -/
theorem outer2 (p : Fin 2048) (c : Fin 128) :
    (val_main_v169 (F := Ideal) x0 x1 x2 x3 x4 x5 x6 x7 x8 x9 x10 x11 x12 x13 x14 x15 x16) (ix2 p c) = dense (fun k : Fin 128 => (val_main_v163 (F := Ideal) x0 x1 x2 x3 x4 x5 x6 x7 x8 x9 x10 x11 x12 x13 x14) (ix2 p k)) (fun k o => x15 (ix2 o k)) (fun o => x16 (ix1 o)) c := by
  unfold val_main_v169 val_main_call4_v4 val_main_call4_v3 val_main_call4_v2 val_main_call4_v1 val_main_call4_v0 val_main_call4_cst val_main_cst_11 val_main_v168 val_main_v167 val_main_v166 val_main_v165 val_main_v164
  pointwise [dot_S2048x128_S128x128_S2048x128_1_0_0_1_n_n]
  rfl

/-- The turned and regrouped array, at a group and a place in it. -/
theorem regroup64 (g : Fin 4) (q : Fin 32768) :
    (val_main_v13 (F := Ideal) x2 x3 x4 x5 x6) (ix2 g q) = (val_main_v11 (F := Ideal) x2 x3 x4 x5 x6) (ix2 ⟨q.val % 2048, Nat.mod_lt _ (by decide)⟩ ⟨g.val * 16 + q.val / 2048, by have := g.isLt; have := q.isLt; omega⟩) := by
  have hg := g.isLt
  have hq := q.isLt
  unfold val_main_v13 val_main_v12
  pointwise
  first
    | done
    | (congr 2 <;> apply Fin.ext <;> simp only [] <;> omega)

/-- The mean of a group. -/
theorem mean64 (g : Fin 4) (c : Fin 64) (hc : c.val / 16 = g.val) :
    (val_main_v17 (F := Ideal) x2 x3 x4 x5 x6) (ix2 g 0) = mean col64 (Ideal.ofBits .f32 0x47000000#32) (fun p c => (val_main_v11 (F := Ideal) x2 x3 x4 x5 x6) (ix2 p c)) c := by
  unfold mean val_main_v17 val_main_v16 val_main_v15 val_main_v14 val_main_cst_1 val_main_cst_2
  pointwise [regroup64]
  rw [sum_blocks 16 2048]
  refine congrArg (fun s => Ideal.div s _) (Finset.sum_congr rfl fun k _ => Finset.sum_congr rfl fun p _ => ?_)
  have hk := k.isLt
  have hp := p.isLt
  unfold col64
  congr 2 <;> apply Fin.ext <;> simp only [] <;> omega

/-- The mean squared deviation of a group. -/
theorem dev64 (g : Fin 4) (c : Fin 64) (hc : c.val / 16 = g.val) :
    (val_main_v24 (F := Ideal) x2 x3 x4 x5 x6) (ix2 g 0) = Ideal.div (∑ k, ∑ q, ((val_main_v11 (F := Ideal) x2 x3 x4 x5 x6) (ix2 q (col64 c k)) - mean col64 (Ideal.ofBits .f32 0x47000000#32) (fun p c => (val_main_v11 (F := Ideal) x2 x3 x4 x5 x6) (ix2 p c)) c)
        * ((val_main_v11 (F := Ideal) x2 x3 x4 x5 x6) (ix2 q (col64 c k)) - mean col64 (Ideal.ofBits .f32 0x47000000#32) (fun p c => (val_main_v11 (F := Ideal) x2 x3 x4 x5 x6) (ix2 p c)) c)) (Ideal.ofBits .f32 0x47000000#32) := by
  rw [← mean64 (g := g) (c := c) (hc := hc)]
  unfold val_main_v24 val_main_v23 val_main_v22 val_main_v21 val_main_v20 val_main_v19 val_main_v18 val_main_cst_3 val_main_cst_4
  pointwise [regroup64]
  rw [sum_blocks 16 2048]
  refine congrArg (fun s => Ideal.div s _) (Finset.sum_congr rfl fun k _ => Finset.sum_congr rfl fun p _ => ?_)
  have hk := k.isLt
  have hp := p.isLt
  have h1 : (k.val * 2048 + p.val) % 2048 = p.val := by omega
  have h2 : g.val * 16 + (k.val * 2048 + p.val) / 2048 = c.val / 16 * 16 + k.val := by omega
  unfold col64
  simp only [h1, h2]

/-- The normalised array, at a row and a column. -/
theorem norm64 (p : Fin 2048) (c : Fin 64) :
    (val_main_v39 (F := Ideal) x2 x3 x4 x5 x6 x7 x8) (ix2 p c) = norm2 col64 (Ideal.ofBits .f32 0x47000000#32) (Ideal.ofBits .f32 0x3727C5AC#32) (fun p c => (val_main_v11 (F := Ideal) x2 x3 x4 x5 x6) (ix2 p c))
      (fun c => x7 (ix1 c)) (fun c => x8 (ix1 c)) p c := by
  have hp := p.isLt
  have hc := c.isLt
  unfold norm2
  rw [← dev64 (g := ⟨c.val / 16, by omega⟩) (c := c) (hc := rfl), ← mean64 (g := ⟨c.val / 16, by omega⟩) (c := c) (hc := rfl)]
  unfold val_main_v39 val_main_v38 val_main_v37 val_main_v36 val_main_v35 val_main_v34 val_main_v33 val_main_v32 val_main_v31 val_main_v30 val_main_v29 val_main_v28 val_main_v27 val_main_v26 val_main_v25 val_main_cst_5
  pointwise [regroup64]
  have h1 : (c.val % 16 * 2048 + p.val) % 2048 = p.val := by omega
  have h2 : c.val / 16 * 16 + (c.val % 16 * 2048 + p.val) / 2048 = c.val := by omega
  simp only [h1, h2]

/-- The turned and regrouped array, at a group and a place in it. -/
theorem regroup128 (g : Fin 4) (q : Fin 65536) :
    (val_main_v171 (F := Ideal) x0 x1 x2 x3 x4 x5 x6 x7 x8 x9 x10 x11 x12 x13 x14 x15 x16) (ix2 g q) = (val_main_v169 (F := Ideal) x0 x1 x2 x3 x4 x5 x6 x7 x8 x9 x10 x11 x12 x13 x14 x15 x16) (ix2 ⟨q.val % 2048, Nat.mod_lt _ (by decide)⟩ ⟨g.val * 32 + q.val / 2048, by have := g.isLt; have := q.isLt; omega⟩) := by
  have hg := g.isLt
  have hq := q.isLt
  unfold val_main_v171 val_main_v170
  pointwise
  first
    | done
    | (congr 2 <;> apply Fin.ext <;> simp only [] <;> omega)

/-- The mean of a group. -/
theorem mean128 (g : Fin 4) (c : Fin 128) (hc : c.val / 32 = g.val) :
    (val_main_v175 (F := Ideal) x0 x1 x2 x3 x4 x5 x6 x7 x8 x9 x10 x11 x12 x13 x14 x15 x16) (ix2 g 0) = mean col128 (Ideal.ofBits .f32 0x47800000#32) (fun p c => (val_main_v169 (F := Ideal) x0 x1 x2 x3 x4 x5 x6 x7 x8 x9 x10 x11 x12 x13 x14 x15 x16) (ix2 p c)) c := by
  unfold mean val_main_v175 val_main_v174 val_main_v173 val_main_v172 val_main_cst_12 val_main_cst_13
  pointwise [regroup128]
  rw [sum_blocks 32 2048]
  refine congrArg (fun s => Ideal.div s _) (Finset.sum_congr rfl fun k _ => Finset.sum_congr rfl fun p _ => ?_)
  have hk := k.isLt
  have hp := p.isLt
  unfold col128
  congr 2 <;> apply Fin.ext <;> simp only [] <;> omega

/-- The mean squared deviation of a group. -/
theorem dev128 (g : Fin 4) (c : Fin 128) (hc : c.val / 32 = g.val) :
    (val_main_v182 (F := Ideal) x0 x1 x2 x3 x4 x5 x6 x7 x8 x9 x10 x11 x12 x13 x14 x15 x16) (ix2 g 0) = Ideal.div (∑ k, ∑ q, ((val_main_v169 (F := Ideal) x0 x1 x2 x3 x4 x5 x6 x7 x8 x9 x10 x11 x12 x13 x14 x15 x16) (ix2 q (col128 c k)) - mean col128 (Ideal.ofBits .f32 0x47800000#32) (fun p c => (val_main_v169 (F := Ideal) x0 x1 x2 x3 x4 x5 x6 x7 x8 x9 x10 x11 x12 x13 x14 x15 x16) (ix2 p c)) c)
        * ((val_main_v169 (F := Ideal) x0 x1 x2 x3 x4 x5 x6 x7 x8 x9 x10 x11 x12 x13 x14 x15 x16) (ix2 q (col128 c k)) - mean col128 (Ideal.ofBits .f32 0x47800000#32) (fun p c => (val_main_v169 (F := Ideal) x0 x1 x2 x3 x4 x5 x6 x7 x8 x9 x10 x11 x12 x13 x14 x15 x16) (ix2 p c)) c)) (Ideal.ofBits .f32 0x47800000#32) := by
  rw [← mean128 (g := g) (c := c) (hc := hc)]
  unfold val_main_v182 val_main_v181 val_main_v180 val_main_v179 val_main_v178 val_main_v177 val_main_v176 val_main_cst_14 val_main_cst_15
  pointwise [regroup128]
  rw [sum_blocks 32 2048]
  refine congrArg (fun s => Ideal.div s _) (Finset.sum_congr rfl fun k _ => Finset.sum_congr rfl fun p _ => ?_)
  have hk := k.isLt
  have hp := p.isLt
  have h1 : (k.val * 2048 + p.val) % 2048 = p.val := by omega
  have h2 : g.val * 32 + (k.val * 2048 + p.val) / 2048 = c.val / 32 * 32 + k.val := by omega
  unfold col128
  simp only [h1, h2]

/-- The normalised array, at a row and a column. -/
theorem norm128 (p : Fin 2048) (c : Fin 128) :
    (val_main_v197 (F := Ideal) x0 x1 x2 x3 x4 x5 x6 x7 x8 x9 x10 x11 x12 x13 x14 x15 x16 x17 x18) (ix2 p c) = norm2 col128 (Ideal.ofBits .f32 0x47800000#32) (Ideal.ofBits .f32 0x3727C5AC#32) (fun p c => (val_main_v169 (F := Ideal) x0 x1 x2 x3 x4 x5 x6 x7 x8 x9 x10 x11 x12 x13 x14 x15 x16) (ix2 p c))
      (fun c => x17 (ix1 c)) (fun c => x18 (ix1 c)) p c := by
  have hp := p.isLt
  have hc := c.isLt
  unfold norm2
  rw [← dev128 (g := ⟨c.val / 32, by omega⟩) (c := c) (hc := rfl), ← mean128 (g := ⟨c.val / 32, by omega⟩) (c := c) (hc := rfl)]
  unfold val_main_v197 val_main_v196 val_main_v195 val_main_v194 val_main_v193 val_main_v192 val_main_v191 val_main_v190 val_main_v189 val_main_v188 val_main_v187 val_main_v186 val_main_v185 val_main_v184 val_main_v183 val_main_cst_16
  pointwise [regroup128]
  have h1 : (c.val % 32 * 2048 + p.val) % 2048 = p.val := by omega
  have h2 : c.val / 32 * 32 + (c.val % 32 * 2048 + p.val) / 2048 = c.val := by omega
  simp only [h1, h2]

end Cert.ReferenceIdeal.Hand
-- ==== Proof.RefHeads.lean ====
module

public import proofs.«01_k».proof.Proof.Gen.ReferenceIdeal.Read
public import Idealize.ShloMosaic.Lib.Pointwise
public import proofs.«01_k».proof.Proof.Layer
public import proofs.«01_k».proof.Proof.RefNorm

@[expose] public section

set_option maxRecDepth 16384

/-! The reference's window, relative position and heads read at an index. -/

noncomputable section

namespace Cert.ReferenceIdeal.Hand

open Idealize.ShloMosaic Cert.ReferenceIdeal Cert.ReferenceIdeal.Gen Cert.ReferenceIdeal.Read Cert.Layer Cert.Algebra
open scoped BigOperators

variable (x0 : FVec Ideal S2048x3 .f32) (x1 : FVec Ideal S2048x3x3 .f32) (x2 : FVec Ideal S2048x128 .f32) (x3 : FVec Ideal S64x128 .f32) (x4 : FVec Ideal S64 .f32) (x5 : FVec Ideal S64x64 .f32) (x6 : FVec Ideal S64 .f32) (x7 : FVec Ideal S64 .f32) (x8 : FVec Ideal S64 .f32) (x9 : FVec Ideal S8x3 .f32) (x10 : FVec Ideal S8 .f32) (x11 : FVec Ideal S64x8 .f32) (x12 : FVec Ideal S64 .f32) (x13 : FVec Ideal S128x64 .f32) (x14 : FVec Ideal S128 .f32) (x15 : FVec Ideal S128x128 .f32) (x16 : FVec Ideal S128 .f32) (x17 : FVec Ideal S128 .f32) (x18 : FVec Ideal S128 .f32)

/-- The divisor of the coordinates. -/
abbrev root : EReal := Ideal.sqrt (Ideal.ofBits .f32 0x40000000#32)

/-- The scaled coordinates. -/
theorem point_apply (p : Fin 2048) (a : Fin 3) : (val_main_v43 (F := Ideal) x0) (ix2 p a) = Ideal.div (x0 (ix2 p a)) root := by
  unfold val_main_v43 val_main_v42 val_main_v41 val_main_v40 val_main_cst_6 val_main_cst_7
  pointwise

/-- The normals: the first direction of each frame. -/
theorem normal_apply (p : Fin 2048) (a : Fin 3) : (val_main_v45 (F := Ideal) x1) (ix2 p a) = x1 (ix3 p 0 a) := by
  unfold val_main_v45 val_main_v44
  pointwise

/-- The difference of two points. -/
theorem diff_apply (i j : Fin 2048) (a : Fin 3) :
    (val_main_v50 (F := Ideal) x0) (ix3 i j a) = Ideal.div (x0 (ix2 j a)) root - Ideal.div (x0 (ix2 i a)) root := by
  unfold val_main_v50 val_main_v49 val_main_v48 val_main_v47 val_main_v46
  pointwise [point_apply]

/-- The window. -/
theorem window_apply (i j : Fin 2048) :
    (val_main_v59 (F := Ideal) x0 x1) (ix2 i j) = winR (fun a => Ideal.div (x0 (ix2 i a)) root) (fun a => Ideal.div (x0 (ix2 j a)) root) (fun a => x1 (ix3 i 0 a)) (fun a => x1 (ix3 j 0 a)) := by
  unfold winR distR facingR val_main_v59 val_main_v58 val_main_v57 val_main_v56 val_main_v55 val_main_v54 val_main_v53 val_main_v52 val_main_v51 val_main_cst_8 val_main_cst_9
  pointwise [dot_S2048x3_S2048x3_S2048x2048_1_1_0_0_n_n, diff_apply, normal_apply]

/-- The relative position. -/
theorem chan_apply (i j : Fin 2048) (c : Fin 8) :
    (val_main_v65 (F := Ideal) x0 x1 x9 x10) (ix3 i j c) = chanR (fun k => x9 (ix2 c k)) (fun k x => x1 (ix3 i k x)) (fun a => Ideal.div (x0 (ix2 i a)) root) (fun a => Ideal.div (x0 (ix2 j a)) root) (x10 (ix1 c)) := by
  unfold chanR val_main_v65 val_main_call2_v0 val_main_call2_cst val_main_v64 val_main_v63 val_main_v62 val_main_v61 val_main_v60
  pointwise [dot_S2048x2048x3_S2048x3x3_S2048x2048x3_2_2_1_1_0_0, dot_S2048x2048x3_S8x3_S2048x2048x8_2_1_01_0_n_n, diff_apply]

/-- The window times the relative position. -/
theorem weight_apply (i j : Fin 2048) (c : Fin 8) :
    (val_main_v68 (F := Ideal) x0 x1 x9 x10) (ix3 i j c) = (val_main_v59 (F := Ideal) x0 x1) (ix2 i j) * (val_main_v65 (F := Ideal) x0 x1 x9 x10) (ix3 i j c) := by
  unfold val_main_v68 val_main_v67 val_main_v66
  pointwise

/-- One feature of the result of the window sum, from the stages it is made of. -/
def headAt (i : Fin 2048) (h : Fin 64) : EReal :=
  headR (fun j => (val_main_v59 (F := Ideal) x0 x1) (ix2 i j)) (fun c j => (val_main_v65 (F := Ideal) x0 x1 x9 x10) (ix3 i j c)) (fun j => (val_main_v39 (F := Ideal) x2 x3 x4 x5 x6 x7 x8) (ix2 j h)) (fun c => x11 (ix2 h c)) (x12 (ix1 h))

/-- Head 0. -/
theorem head0 (i : Fin 2048) (h : Fin 8) :
    (val_main_v79 (F := Ideal) x0 x1 x2 x3 x4 x5 x6 x7 x8 x9 x10 x11 x12) (ix2 i h) = headAt x0 x1 x2 x3 x4 x5 x6 x7 x8 x9 x10 x11 x12 i ⟨0 + h.val, by have := h.isLt; omega⟩ := by
  unfold headAt headR val_main_v79 val_main_v78 val_main_v77 val_main_v76 val_main_v75 val_main_v74 val_main_v73 val_main_v72 val_main_v71 val_main_v70 val_main_v69
  pointwise [dot_S2048x2048x8_S2048x8_S2048x8x8_1_0_02_1_n_n, dot_S8x8_S2048x8x8_S8x2048_1_1_n_0_0_2, dot_S2048x2048_S2048x8_S2048x8_1_0_0_1_n_n, weight_apply]

/-- Head 1. -/
theorem head1 (i : Fin 2048) (h : Fin 8) :
    (val_main_v90 (F := Ideal) x0 x1 x2 x3 x4 x5 x6 x7 x8 x9 x10 x11 x12) (ix2 i h) = headAt x0 x1 x2 x3 x4 x5 x6 x7 x8 x9 x10 x11 x12 i ⟨8 + h.val, by have := h.isLt; omega⟩ := by
  unfold headAt headR val_main_v90 val_main_v89 val_main_v88 val_main_v87 val_main_v86 val_main_v85 val_main_v84 val_main_v83 val_main_v82 val_main_v81 val_main_v80
  pointwise [dot_S2048x2048x8_S2048x8_S2048x8x8_1_0_02_1_n_n, dot_S8x8_S2048x8x8_S8x2048_1_1_n_0_0_2, dot_S2048x2048_S2048x8_S2048x8_1_0_0_1_n_n, weight_apply]

/-- Head 2. -/
theorem head2 (i : Fin 2048) (h : Fin 8) :
    (val_main_v101 (F := Ideal) x0 x1 x2 x3 x4 x5 x6 x7 x8 x9 x10 x11 x12) (ix2 i h) = headAt x0 x1 x2 x3 x4 x5 x6 x7 x8 x9 x10 x11 x12 i ⟨16 + h.val, by have := h.isLt; omega⟩ := by
  unfold headAt headR val_main_v101 val_main_v100 val_main_v99 val_main_v98 val_main_v97 val_main_v96 val_main_v95 val_main_v94 val_main_v93 val_main_v92 val_main_v91
  pointwise [dot_S2048x2048x8_S2048x8_S2048x8x8_1_0_02_1_n_n, dot_S8x8_S2048x8x8_S8x2048_1_1_n_0_0_2, dot_S2048x2048_S2048x8_S2048x8_1_0_0_1_n_n, weight_apply]

/-- Head 3. -/
theorem head3 (i : Fin 2048) (h : Fin 8) :
    (val_main_v112 (F := Ideal) x0 x1 x2 x3 x4 x5 x6 x7 x8 x9 x10 x11 x12) (ix2 i h) = headAt x0 x1 x2 x3 x4 x5 x6 x7 x8 x9 x10 x11 x12 i ⟨24 + h.val, by have := h.isLt; omega⟩ := by
  unfold headAt headR val_main_v112 val_main_v111 val_main_v110 val_main_v109 val_main_v108 val_main_v107 val_main_v106 val_main_v105 val_main_v104 val_main_v103 val_main_v102
  pointwise [dot_S2048x2048x8_S2048x8_S2048x8x8_1_0_02_1_n_n, dot_S8x8_S2048x8x8_S8x2048_1_1_n_0_0_2, dot_S2048x2048_S2048x8_S2048x8_1_0_0_1_n_n, weight_apply]

/-- Head 4. -/
theorem head4 (i : Fin 2048) (h : Fin 8) :
    (val_main_v123 (F := Ideal) x0 x1 x2 x3 x4 x5 x6 x7 x8 x9 x10 x11 x12) (ix2 i h) = headAt x0 x1 x2 x3 x4 x5 x6 x7 x8 x9 x10 x11 x12 i ⟨32 + h.val, by have := h.isLt; omega⟩ := by
  unfold headAt headR val_main_v123 val_main_v122 val_main_v121 val_main_v120 val_main_v119 val_main_v118 val_main_v117 val_main_v116 val_main_v115 val_main_v114 val_main_v113
  pointwise [dot_S2048x2048x8_S2048x8_S2048x8x8_1_0_02_1_n_n, dot_S8x8_S2048x8x8_S8x2048_1_1_n_0_0_2, dot_S2048x2048_S2048x8_S2048x8_1_0_0_1_n_n, weight_apply]

/-- Head 5. -/
theorem head5 (i : Fin 2048) (h : Fin 8) :
    (val_main_v134 (F := Ideal) x0 x1 x2 x3 x4 x5 x6 x7 x8 x9 x10 x11 x12) (ix2 i h) = headAt x0 x1 x2 x3 x4 x5 x6 x7 x8 x9 x10 x11 x12 i ⟨40 + h.val, by have := h.isLt; omega⟩ := by
  unfold headAt headR val_main_v134 val_main_v133 val_main_v132 val_main_v131 val_main_v130 val_main_v129 val_main_v128 val_main_v127 val_main_v126 val_main_v125 val_main_v124
  pointwise [dot_S2048x2048x8_S2048x8_S2048x8x8_1_0_02_1_n_n, dot_S8x8_S2048x8x8_S8x2048_1_1_n_0_0_2, dot_S2048x2048_S2048x8_S2048x8_1_0_0_1_n_n, weight_apply]

/-- Head 6. -/
theorem head6 (i : Fin 2048) (h : Fin 8) :
    (val_main_v145 (F := Ideal) x0 x1 x2 x3 x4 x5 x6 x7 x8 x9 x10 x11 x12) (ix2 i h) = headAt x0 x1 x2 x3 x4 x5 x6 x7 x8 x9 x10 x11 x12 i ⟨48 + h.val, by have := h.isLt; omega⟩ := by
  unfold headAt headR val_main_v145 val_main_v144 val_main_v143 val_main_v142 val_main_v141 val_main_v140 val_main_v139 val_main_v138 val_main_v137 val_main_v136 val_main_v135
  pointwise [dot_S2048x2048x8_S2048x8_S2048x8x8_1_0_02_1_n_n, dot_S8x8_S2048x8x8_S8x2048_1_1_n_0_0_2, dot_S2048x2048_S2048x8_S2048x8_1_0_0_1_n_n, weight_apply]

/-- Head 7. -/
theorem head7 (i : Fin 2048) (h : Fin 8) :
    (val_main_v156 (F := Ideal) x0 x1 x2 x3 x4 x5 x6 x7 x8 x9 x10 x11 x12) (ix2 i h) = headAt x0 x1 x2 x3 x4 x5 x6 x7 x8 x9 x10 x11 x12 i ⟨56 + h.val, by have := h.isLt; omega⟩ := by
  unfold headAt headR val_main_v156 val_main_v155 val_main_v154 val_main_v153 val_main_v152 val_main_v151 val_main_v150 val_main_v149 val_main_v148 val_main_v147 val_main_v146
  pointwise [dot_S2048x2048x8_S2048x8_S2048x8x8_1_0_02_1_n_n, dot_S8x8_S2048x8x8_S8x2048_1_1_n_0_0_2, dot_S2048x2048_S2048x8_S2048x8_1_0_0_1_n_n, weight_apply]

/-- The eight heads side by side. -/
theorem heads (i : Fin 2048) (h : Fin 64) : (val_main_v157 (F := Ideal) x0 x1 x2 x3 x4 x5 x6 x7 x8 x9 x10 x11 x12) (ix2 i h) = headAt x0 x1 x2 x3 x4 x5 x6 x7 x8 x9 x10 x11 x12 i h := by
  have hh := h.isLt
  unfold val_main_v157
  pointwise [head0, head1, head2, head3, head4, head5, head6, head7]
  split_ifs <;> congr 1 <;> apply Fin.ext <;> simp only [] <;> omega

end Cert.ReferenceIdeal.Hand
-- ==== Proof.Agree.lean ====
module

public import proofs.«01_k».proof.Proof.Layer

@[expose] public section

/-! Where the two spellings of the layer agree: the literals' values, the scale of the coordinates, the window and the
    relative position of points with real coordinates, and the sum over the heads. -/

noncomputable section

namespace Cert.Layer

open Idealize.ShloMosaic Cert.Algebra
open scoped BigOperators

/-! ### Literals -/

/-- The literal two. -/
theorem lit_two : Ideal.ofBits .f32 0x40000000#32 = ((2 : ℝ) : EReal) := by
  simp only [Ideal.ofBits, Ideal.ieee]
  have h1 : (0x40000000#32).extractLsb' 31 1 = 0#1 := by decide
  have h2 : (0x40000000#32).extractLsb' 23 8 = 128#8 := by decide
  have h3 : (0x40000000#32).extractLsb' 0 23 = 0#23 := by decide
  norm_num [h1, h2, h3]

/-- The literal minus two. -/
theorem lit_neg_two : Ideal.ofBits .f32 0xC0000000#32 = ((-2 : ℝ) : EReal) := by
  simp only [Ideal.ofBits, Ideal.ieee]
  have h1 : (0xC0000000#32).extractLsb' 31 1 = 1#1 := by decide
  have h2 : (0xC0000000#32).extractLsb' 23 8 = 128#8 := by decide
  have h3 : (0xC0000000#32).extractLsb' 0 23 = 0#23 := by decide
  norm_num [h1, h2, h3]

/-- The number of entries in a group of the first normalisation. -/
theorem lit_32768 : Ideal.ofBits .f32 0x47000000#32 = ((32768 : ℝ) : EReal) := by
  simp only [Ideal.ofBits, Ideal.ieee]
  have h1 : (0x47000000#32).extractLsb' 31 1 = 0#1 := by decide
  have h2 : (0x47000000#32).extractLsb' 23 8 = 142#8 := by decide
  have h3 : (0x47000000#32).extractLsb' 0 23 = 0#23 := by decide
  norm_num [h1, h2, h3]

/-- The number of entries in a group of the second normalisation. -/
theorem lit_65536 : Ideal.ofBits .f32 0x47800000#32 = ((65536 : ℝ) : EReal) := by
  simp only [Ideal.ofBits, Ideal.ieee]
  have h1 : (0x47800000#32).extractLsb' 31 1 = 0#1 := by decide
  have h2 : (0x47800000#32).extractLsb' 23 8 = 143#8 := by decide
  have h3 : (0x47800000#32).extractLsb' 0 23 = 0#23 := by decide
  norm_num [h1, h2, h3]

/-- The small number under the root is a positive real. -/
theorem lit_eps : ∃ ε : ℝ, 0 < ε ∧ Ideal.ofBits .f32 0x3727C5AC#32 = (ε : EReal) := by
  refine ⟨(2 ^ 23 + 2606508 : ℕ) * (2 : ℝ) ^ ((110 : ℤ) - 127 - 23), by positivity, ?_⟩
  simp only [Ideal.ofBits, Ideal.ieee]
  have h1 : (0x3727C5AC#32).extractLsb' 31 1 = 0#1 := by decide
  have h2 : (0x3727C5AC#32).extractLsb' 23 8 = 110#8 := by decide
  have h3 : (0x3727C5AC#32).extractLsb' 0 23 = 2606508#23 := by decide
  norm_num [h1, h2, h3]

/-! ### The scale of the coordinates -/

/-- Dividing by the root of two is multiplying by its reciprocal, at every extended real. -/
theorem div_root (x : EReal) :
    Ideal.div x (Ideal.sqrt (Ideal.ofBits .f32 0x40000000#32)) = x * (((Real.sqrt 2)⁻¹ : ℝ) : EReal) := by
  have h : Real.sqrt 2 ≠ 0 := (Real.sqrt_pos.mpr (by norm_num)).ne'
  rw [lit_two, sqrt_pos 2 (by norm_num)]
  unfold Ideal.div
  rw [if_neg (by exact_mod_cast h), EReal.coe_inv]

/-! ### Window, relative position, heads -/

/-- The two windows agree between points with real coordinates and real normals. -/
theorem winK_eq_winR (xi xj ni nj : Fin 3 → ℝ) :
    winK (fun a => (xi a : EReal)) (fun a => (xj a : EReal)) (fun a => (ni a : EReal)) (fun a => (nj a : EReal))
      = winR (fun a => (xi a : EReal)) (fun a => (xj a : EReal)) (fun a => (ni a : EReal)) (fun a => (nj a : EReal)) := by
  unfold winK winR distK distR facingK facingR
  rw [lit_two, lit_neg_two]
  simp only [Fin.sum_univ_three, ← EReal.coe_zero, ← EReal.coe_mul, ← EReal.coe_add, ← EReal.coe_sub, ← EReal.coe_neg]
  congr 2
  ring

/-- The two relative positions agree between points with real coordinates, a real frame and real weights, whatever the offset. -/
theorem chanK_eq_chanR (a : Fin 3 → ℝ) (u : Fin 3 → Fin 3 → ℝ) (xi xj : Fin 3 → ℝ) (b : EReal) :
    chanK (dirK (fun k => (a k : EReal)) fun k x => (u k x : EReal)) (fun x => (xi x : EReal)) (fun x => (xj x : EReal)) b
      = chanR (fun k => (a k : EReal)) (fun k x => (u k x : EReal)) (fun x => (xi x : EReal)) (fun x => (xj x : EReal)) b := by
  unfold chanK chanR dirK
  simp only [Fin.sum_univ_three, ← EReal.coe_mul, ← EReal.coe_add, ← EReal.coe_sub]
  rw [sub_eq_add_neg, ← EReal.coe_neg, add_comm b, ← add_assoc, ← EReal.coe_add]
  congr 3
  ring

/-- The two sums over the heads agree at every extended real. -/
theorem headK_eq_headR {m : ℕ} (w : Fin m → EReal) (r : Fin 8 → Fin m → EReal) (f : Fin m → EReal) (A : Fin 8 → EReal) (B : EReal) :
    headK w r f A B = headR w r f A B := by
  unfold headK headR
  rw [Fin.sum_univ_eight]
  simp only [mul_comm (A _), mul_comm B]
  ac_rfl

/-- The first normalisation: both spellings agree when the gains are real. -/
theorem norm64_eq (x : Fin 2048 → Fin 64 → EReal) (γ β : Fin 64 → EReal) (hγ : ∀ c, ∃ g : ℝ, γ c = (g : EReal)) (p : Fin 2048) (c : Fin 64) :
    norm1 col64 (Ideal.ofBits .f32 0x47000000#32) (Ideal.ofBits .f32 0x3727C5AC#32) x γ β p c
      = norm2 col64 (Ideal.ofBits .f32 0x47000000#32) (Ideal.ofBits .f32 0x3727C5AC#32) x γ β p c := by
  obtain ⟨ε, hε, he⟩ := lit_eps
  rw [lit_32768, he]
  refine norm1_eq_norm2 col64 32768 ε (by norm_num) hε (by norm_num) (fun c => ⟨⟨c.val % 16, Nat.mod_lt _ (by decide)⟩, ?_⟩) x γ β hγ p c
  unfold col64
  apply Fin.ext
  simp only
  omega

/-- The second normalisation: both spellings agree when the gains are real. -/
theorem norm128_eq (x : Fin 2048 → Fin 128 → EReal) (γ β : Fin 128 → EReal) (hγ : ∀ c, ∃ g : ℝ, γ c = (g : EReal)) (p : Fin 2048) (c : Fin 128) :
    norm1 col128 (Ideal.ofBits .f32 0x47800000#32) (Ideal.ofBits .f32 0x3727C5AC#32) x γ β p c
      = norm2 col128 (Ideal.ofBits .f32 0x47800000#32) (Ideal.ofBits .f32 0x3727C5AC#32) x γ β p c := by
  obtain ⟨ε, hε, he⟩ := lit_eps
  rw [lit_65536, he]
  refine norm1_eq_norm2 col128 65536 ε (by norm_num) hε (by norm_num) (fun c => ⟨⟨c.val % 32, Nat.mod_lt _ (by decide)⟩, ?_⟩) x γ β hγ p c
  unfold col128
  apply Fin.ext
  simp only
  omega

end Cert.Layer
-- ==== Proof.Whole.lean ====
/-
  The whole layer as a function of its nineteen arguments, in the kernel's spelling and in the problem's, and the
  equality of the two when the points, the frames, the weights `A1` and the gains are real.
-/
module

public import proofs.«01_k».proof.Proof.Agree

@[expose] public section

noncomputable section

namespace Cert.Layer

open Idealize.ShloMosaic Cert.Algebra
open scoped BigOperators

/-- The arguments of the layer as functions of coordinates. -/
structure Args where
  /-- The points. -/
  points : Fin 2048 → Fin 3 → EReal
  /-- The frames: three directions at each point, the first the normal. -/
  frames : Fin 2048 → Fin 3 → Fin 3 → EReal
  /-- The input features. -/
  feats : Fin 2048 → Fin 128 → EReal
  /-- Weights and offset of the first hidden layer. -/
  w1 : Fin 64 → Fin 128 → EReal
  /-- Its offset. -/
  b1 : Fin 64 → EReal
  /-- Weights of the second hidden layer. -/
  w2 : Fin 64 → Fin 64 → EReal
  /-- Its offset. -/
  b2 : Fin 64 → EReal
  /-- Gains of the first normalisation. -/
  g1 : Fin 64 → EReal
  /-- Its offsets. -/
  o1 : Fin 64 → EReal
  /-- Weights from a point's frame to the eight channels. -/
  a1 : Fin 8 → Fin 3 → EReal
  /-- Their offset. -/
  c1 : Fin 8 → EReal
  /-- Weights from the channels to the features. -/
  a2 : Fin 64 → Fin 8 → EReal
  /-- Their offset. -/
  c2 : Fin 64 → EReal
  /-- Weights of the first output layer. -/
  w3 : Fin 128 → Fin 64 → EReal
  /-- Its offset. -/
  b3 : Fin 128 → EReal
  /-- Weights of the second output layer. -/
  w4 : Fin 128 → Fin 128 → EReal
  /-- Its offset. -/
  b4 : Fin 128 → EReal
  /-- Gains of the second normalisation. -/
  g2 : Fin 128 → EReal
  /-- Its offsets. -/
  o2 : Fin 128 → EReal

namespace Args

variable (A : Args)

/-- The two hidden layers at a point. -/
def hidden (p : Fin 2048) : Fin 64 → EReal :=
  dense (dense (A.feats p) (fun k o => A.w1 o k) A.b1) (fun k o => A.w2 o k) A.b2

/-- The two output layers over the window sums `s`. -/
def outer (s : Fin 64 → EReal) : Fin 128 → EReal :=
  dense (dense s (fun k o => A.w3 o k) A.b3) (fun k o => A.w4 o k) A.b4

/-- The scaled points as the kernel computes them: times the reciprocal root. -/
def ptK (p : Fin 2048) (a : Fin 3) : EReal := A.points p a * (((Real.sqrt 2)⁻¹ : ℝ) : EReal)
/-- The scaled points as the problem states them: divided by the root. -/
def ptR (p : Fin 2048) (a : Fin 3) : EReal := Ideal.div (A.points p a) (Ideal.sqrt (Ideal.ofBits .f32 0x40000000#32))

/-- The hidden features, normalised by one sweep. -/
def featK (p : Fin 2048) (h : Fin 64) : EReal :=
  norm1 col64 (Ideal.ofBits .f32 0x47000000#32) (Ideal.ofBits .f32 0x3727C5AC#32) A.hidden A.g1 A.o1 p h
/-- The hidden features, normalised as the problem states it. -/
def featR (p : Fin 2048) (h : Fin 64) : EReal :=
  norm2 col64 (Ideal.ofBits .f32 0x47000000#32) (Ideal.ofBits .f32 0x3727C5AC#32) A.hidden A.g1 A.o1 p h

/-- The window sums at a point as the kernel computes them. -/
def sumK (p : Fin 2048) (h : Fin 64) : EReal :=
  headK (fun j => winK (A.ptK p) (A.ptK j) (A.frames p 0) (A.frames j 0))
    (fun c j => chanK (dirK (A.a1 c) (A.frames p)) (A.ptK p) (A.ptK j) (A.c1 c)) (fun j => A.featK j h) (A.a2 h) (A.c2 h)
/-- The window sums at a point as the problem states them. -/
def sumR (p : Fin 2048) (h : Fin 64) : EReal :=
  headR (fun j => winR (A.ptR p) (A.ptR j) (A.frames p 0) (A.frames j 0))
    (fun c j => chanR (A.a1 c) (A.frames p) (A.ptR p) (A.ptR j) (A.c1 c)) (fun j => A.featR j h) (A.a2 h) (A.c2 h)

/-- The result of the layer as the kernel computes it. -/
def outK (p : Fin 2048) (o : Fin 128) : EReal :=
  norm1 col128 (Ideal.ofBits .f32 0x47800000#32) (Ideal.ofBits .f32 0x3727C5AC#32) (fun p => A.outer (A.sumK p)) A.g2 A.o2 p o
/-- The result of the layer as the problem states it. -/
def outR (p : Fin 2048) (o : Fin 128) : EReal :=
  norm2 col128 (Ideal.ofBits .f32 0x47800000#32) (Ideal.ofBits .f32 0x3727C5AC#32) (fun p => A.outer (A.sumR p)) A.g2 A.o2 p o

/-- The arguments that must be real: points, frames, the weights over the frame, and the gains of both normalisations. -/
structure AreReal : Prop where
  /-- The points are real. -/
  points : ∀ p a, ∃ r : ℝ, A.points p a = (r : EReal)
  /-- The frames are real. -/
  frames : ∀ p k a, ∃ r : ℝ, A.frames p k a = (r : EReal)
  /-- The weights over the frame are real. -/
  a1 : ∀ c k, ∃ r : ℝ, A.a1 c k = (r : EReal)
  /-- The gains of the first normalisation are real. -/
  g1 : ∀ h, ∃ r : ℝ, A.g1 h = (r : EReal)
  /-- The gains of the second normalisation are real. -/
  g2 : ∀ o, ∃ r : ℝ, A.g2 o = (r : EReal)

/-- The two scalings of the points are one. -/
theorem ptR_eq_ptK : A.ptR = A.ptK := by
  funext p a
  exact div_root _

/-- The two windowed sums agree. -/
theorem sumK_eq_sumR (h : A.AreReal) : A.sumK = A.sumR := by
  choose x hx using h.points
  choose u hu using h.frames
  choose a ha using h.a1
  have hpt : ∀ p, A.ptK p = fun b => ((x p b * (Real.sqrt 2)⁻¹ : ℝ) : EReal) := fun p => by
    funext b
    unfold ptK
    rw [hx, EReal.coe_mul]
  have hfr : ∀ p, A.frames p = fun k b => ((u p k b : ℝ) : EReal) := fun p => by
    funext k b
    exact hu p k b
  have ha1 : ∀ c, A.a1 c = fun k => ((a c k : ℝ) : EReal) := fun c => by
    funext k
    exact ha c k
  have hf : A.featK = A.featR := by
    funext j b
    exact norm64_eq _ _ _ h.g1 j b
  funext p b
  unfold sumK sumR
  rw [headK_eq_headR, ptR_eq_ptK, hf]
  have hw : (fun j => winK (A.ptK p) (A.ptK j) (A.frames p 0) (A.frames j 0))
      = fun j => winR (A.ptK p) (A.ptK j) (A.frames p 0) (A.frames j 0) := by
    funext j
    simp only [hpt, hfr]
    exact winK_eq_winR _ _ _ _
  have hc : (fun c j => chanK (dirK (A.a1 c) (A.frames p)) (A.ptK p) (A.ptK j) (A.c1 c))
      = fun c j => chanR (A.a1 c) (A.frames p) (A.ptK p) (A.ptK j) (A.c1 c) := by
    funext c j
    simp only [hpt, hfr, ha1]
    exact chanK_eq_chanR _ _ _ _ _
  rw [hw, hc]

/-- The two spellings of the layer agree at every entry. -/
theorem outK_eq_outR (h : A.AreReal) (p : Fin 2048) (o : Fin 128) : A.outK p o = A.outR p o := by
  unfold outK outR
  rw [sumK_eq_sumR A h]
  exact norm128_eq _ _ _ h.g2 p o

end Args

end Cert.Layer

end
-- ==== Proof.RefValue.lean ====
/-
  The reference's result at an index is the layer as the problem states it.
-/
module

public import proofs.«01_k».proof.Proof.RefHeads
public import proofs.«01_k».proof.Proof.RefNorm
public import proofs.«01_k».proof.Proof.Whole

@[expose] public section

set_option maxRecDepth 16384

noncomputable section

namespace Cert.ReferenceIdeal.Hand

open Idealize.ShloMosaic Cert.ReferenceIdeal Cert.ReferenceIdeal.Gen Cert.ReferenceIdeal.Read Cert.Layer Cert.Algebra
open scoped BigOperators

variable (x0 : FVec Ideal S2048x3 .f32) (x1 : FVec Ideal S2048x3x3 .f32) (x2 : FVec Ideal S2048x128 .f32) (x3 : FVec Ideal S64x128 .f32) (x4 : FVec Ideal S64 .f32) (x5 : FVec Ideal S64x64 .f32) (x6 : FVec Ideal S64 .f32) (x7 : FVec Ideal S64 .f32) (x8 : FVec Ideal S64 .f32) (x9 : FVec Ideal S8x3 .f32) (x10 : FVec Ideal S8 .f32) (x11 : FVec Ideal S64x8 .f32) (x12 : FVec Ideal S64 .f32) (x13 : FVec Ideal S128x64 .f32) (x14 : FVec Ideal S128 .f32) (x15 : FVec Ideal S128x128 .f32) (x16 : FVec Ideal S128 .f32) (x17 : FVec Ideal S128 .f32) (x18 : FVec Ideal S128 .f32)

/-- The reference's arguments as functions of coordinates. -/
def args : Args where
  points i a := x0 (ix2 i a)
  frames i k a := x1 (ix3 i k a)
  feats p k := x2 (ix2 p k)
  w1 o k := x3 (ix2 o k)
  b1 o := x4 (ix1 o)
  w2 o k := x5 (ix2 o k)
  b2 o := x6 (ix1 o)
  g1 c := x7 (ix1 c)
  o1 c := x8 (ix1 c)
  a1 c k := x9 (ix2 c k)
  c1 c := x10 (ix1 c)
  a2 h c := x11 (ix2 h c)
  c2 h := x12 (ix1 h)
  w3 o k := x13 (ix2 o k)
  b3 o := x14 (ix1 o)
  w4 o k := x15 (ix2 o k)
  b4 o := x16 (ix1 o)
  g2 c := x17 (ix1 c)
  o2 c := x18 (ix1 c)

/-- The hidden layers. -/
theorem hidden_eq (p : Fin 2048) (c : Fin 64) : (val_main_v11 (F := Ideal) x2 x3 x4 x5 x6) (ix2 p c) = (args x0 x1 x2 x3 x4 x5 x6 x7 x8 x9 x10 x11 x12 x13 x14 x15 x16 x17 x18).hidden p c := by
  rw [hidden2]
  simp only [hidden1]
  rfl

/-- The hidden features. -/
theorem feat_eq (p : Fin 2048) (c : Fin 64) : (val_main_v39 (F := Ideal) x2 x3 x4 x5 x6 x7 x8) (ix2 p c) = (args x0 x1 x2 x3 x4 x5 x6 x7 x8 x9 x10 x11 x12 x13 x14 x15 x16 x17 x18).featR p c := by
  rw [norm64]
  simp only [hidden_eq x0 x1 x2 x3 x4 x5 x6 x7 x8 x9 x10 x11 x12 x13 x14 x15 x16 x17 x18]
  rfl

/-- The window sums. -/
theorem sum_eq (p : Fin 2048) (c : Fin 64) :
    (val_main_v157 (F := Ideal) x0 x1 x2 x3 x4 x5 x6 x7 x8 x9 x10 x11 x12) (ix2 p c) = (args x0 x1 x2 x3 x4 x5 x6 x7 x8 x9 x10 x11 x12 x13 x14 x15 x16 x17 x18).sumR p c := by
  rw [heads]
  unfold headAt
  simp only [window_apply, chan_apply, feat_eq x0 x1 x2 x3 x4 x5 x6 x7 x8 x9 x10 x11 x12 x13 x14 x15 x16 x17 x18]
  rfl

/-- The output layers. -/
theorem outer_eq (p : Fin 2048) (c : Fin 128) :
    (val_main_v169 (F := Ideal) x0 x1 x2 x3 x4 x5 x6 x7 x8 x9 x10 x11 x12 x13 x14 x15 x16) (ix2 p c) = (args x0 x1 x2 x3 x4 x5 x6 x7 x8 x9 x10 x11 x12 x13 x14 x15 x16 x17 x18).outer ((args x0 x1 x2 x3 x4 x5 x6 x7 x8 x9 x10 x11 x12 x13 x14 x15 x16 x17 x18).sumR p) c := by
  rw [outer2]
  simp only [outer1, sum_eq x0 x1 x2 x3 x4 x5 x6 x7 x8 x9 x10 x11 x12 x13 x14 x15 x16 x17 x18]
  rfl

/-- The result. -/
theorem result_eq (p : Fin 2048) (c : Fin 128) :
    (val_main_v197 (F := Ideal) x0 x1 x2 x3 x4 x5 x6 x7 x8 x9 x10 x11 x12 x13 x14 x15 x16 x17 x18) (ix2 p c) = (args x0 x1 x2 x3 x4 x5 x6 x7 x8 x9 x10 x11 x12 x13 x14 x15 x16 x17 x18).outR p c := by
  rw [norm128]
  simp only [outer_eq x0 x1 x2 x3 x4 x5 x6 x7 x8 x9 x10 x11 x12 x13 x14 x15 x16 x17 x18]
  rfl

end Cert.ReferenceIdeal.Hand

end
-- ==== Proof.Cases.lean ====
/-
  What the two runs of the kernel body are stated over: the two conditions of the body on the grid point, that every input
  is live at every point, the memrefs the body is handed, and the launch's invariant with the two scratch buffers spelled.
-/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The body computes the hidden features: the first conditional is taken. -/
abbrev first (i : grid0.Coords) : Prop := (Scalar.cmpi .ne (Scalar.extui (Scalar.cmpi .eq (BitVec.ofNat 32 (i 0).val) 0#32)) 0#32) = 1#1

/-- The first conditional is taken at the first point only. -/
theorem first_iff : ∀ t : Fin cfg0.N, first (grid0.coords t) ↔ t.val % 2 = 0 :=
  (fun t => by
    have ht : t.val < 2 := Nat.lt_of_lt_of_eq t.isLt N_0
    have e0 : (grid0.coords t 0).val = t.val / 1 % 2 := Pipeline.Grid.coords_val t 0 (by decide) rfl
    simp only [first, e0]
    word_cmp
   : ∀ t : Fin grid0.N, first (grid0.coords t) ↔ t.val % 2 = 0)

/-- The body normalises and stores the result: the second conditional is taken. -/
abbrev last (i : grid0.Coords) : Prop := k0_cond2 i = 1#1

/-- The second conditional is taken at the last point only. -/
theorem last_iff : ∀ t : Fin cfg0.N, last (grid0.coords t) ↔ t.val % 2 = 1 :=
  (fun t => by
    have ht : t.val < 2 := Nat.lt_of_lt_of_eq t.isLt N_0
    have e0 : (grid0.coords t 0).val = t.val / 1 % 2 := Pipeline.Grid.coords_val t 0 (by decide) rfl
    simp only [last, k0_cond2, e0]
    word_cmp
   : ∀ t : Fin grid0.N, last (grid0.coords t) ↔ t.val % 2 = 1)

/-- Input window 0 is live at every point. -/
theorem live_0 : ∀ t : Fin cfg0.N, cfg0.idle 0 (grid0.coords t) = false := fun _ => rfl
/-- Input window 1 is live at every point. -/
theorem live_1 : ∀ t : Fin cfg0.N, cfg0.idle 1 (grid0.coords t) = false := fun _ => rfl
/-- Input window 2 is live at every point. -/
theorem live_2 : ∀ t : Fin cfg0.N, cfg0.idle 2 (grid0.coords t) = false := fun _ => rfl
/-- Input window 3 is live at every point. -/
theorem live_3 : ∀ t : Fin cfg0.N, cfg0.idle 3 (grid0.coords t) = false := fun _ => rfl
/-- Input window 4 is live at every point. -/
theorem live_4 : ∀ t : Fin cfg0.N, cfg0.idle 4 (grid0.coords t) = false := fun _ => rfl
/-- Input window 5 is live at every point. -/
theorem live_5 : ∀ t : Fin cfg0.N, cfg0.idle 5 (grid0.coords t) = false := fun _ => rfl
/-- Input window 6 is live at every point. -/
theorem live_6 : ∀ t : Fin cfg0.N, cfg0.idle 6 (grid0.coords t) = false := fun _ => rfl
/-- Input window 7 is live at every point. -/
theorem live_7 : ∀ t : Fin cfg0.N, cfg0.idle 7 (grid0.coords t) = false := fun _ => rfl
/-- Input window 8 is live at every point. -/
theorem live_8 : ∀ t : Fin cfg0.N, cfg0.idle 8 (grid0.coords t) = false := fun _ => rfl
/-- Input window 9 is live at every point. -/
theorem live_9 : ∀ t : Fin cfg0.N, cfg0.idle 9 (grid0.coords t) = false := fun _ => rfl
/-- Input window 10 is live at every point. -/
theorem live_10 : ∀ t : Fin cfg0.N, cfg0.idle 10 (grid0.coords t) = false := fun _ => rfl
/-- Input window 11 is live at every point. -/
theorem live_11 : ∀ t : Fin cfg0.N, cfg0.idle 11 (grid0.coords t) = false := fun _ => rfl
/-- Input window 12 is live at every point. -/
theorem live_12 : ∀ t : Fin cfg0.N, cfg0.idle 12 (grid0.coords t) = false := fun _ => rfl
/-- Input window 13 is live at every point. -/
theorem live_13 : ∀ t : Fin cfg0.N, cfg0.idle 13 (grid0.coords t) = false := fun _ => rfl
/-- Input window 14 is live at every point. -/
theorem live_14 : ∀ t : Fin cfg0.N, cfg0.idle 14 (grid0.coords t) = false := fun _ => rfl
/-- Input window 15 is live at every point. -/
theorem live_15 : ∀ t : Fin cfg0.N, cfg0.idle 15 (grid0.coords t) = false := fun _ => rfl
/-- Input window 16 is live at every point. -/
theorem live_16 : ∀ t : Fin cfg0.N, cfg0.idle 16 (grid0.coords t) = false := fun _ => rfl
/-- Input window 17 is live at every point. -/
theorem live_17 : ∀ t : Fin cfg0.N, cfg0.idle 17 (grid0.coords t) = false := fun _ => rfl
/-- Input window 18 is live at every point. -/
theorem live_18 : ∀ t : Fin cfg0.N, cfg0.idle 18 (grid0.coords t) = false := fun _ => rfl
/-- Input window 19 is live at every point. -/
theorem live_19 : ∀ t : Fin cfg0.N, cfg0.idle 19 (grid0.coords t) = false := fun _ => rfl
/-- Input window 20 is live at every point. -/
theorem live_20 : ∀ t : Fin cfg0.N, cfg0.idle 20 (grid0.coords t) = false := fun _ => rfl
/-- Input window 21 is live at every point. -/
theorem live_21 : ∀ t : Fin cfg0.N, cfg0.idle 21 (grid0.coords t) = false := fun _ => rfl

/-- The result's window is idle where the second conditional is not taken. -/
theorem idle_22 (t : Fin cfg0.N) (h : ¬t.val % 2 = 1) : cfg0.idle 22 (grid0.coords t) = true := by
  show (!(k0_cond2 (grid0.coords t) == 1#1)) = true
  have : ¬ k0_cond2 (grid0.coords t) = 1#1 := fun e => h ((last_iff t).mp e)
  simp [this]

/-- The result's window is live where the second conditional is taken. -/
theorem live_22 (t : Fin cfg0.N) (h : t.val % 2 = 1) : cfg0.idle 22 (grid0.coords t) = false := by
  show (!(k0_cond2 (grid0.coords t) == 1#1)) = false
  have : k0_cond2 (grid0.coords t) = 1#1 := (last_iff t).mpr h
  simp [this]

/-- The buffer the body reads operand 0 from at a point. -/
abbrev buf_0 (t : Fin cfg0.N) : Memref sig .tc .vmem S2048x3 .f32 := win0_0.stage (cfg0.slots t 0)
/-- The buffer of window 0 is a whole one. -/
abbrev whole_0 (t : Fin cfg0.N) : (buf_0 t).IsWhole := hstage0_0 ((cfg0.slots t 0).cast nbuf0_0)
/-- The buffer the body reads operand 1 from at a point. -/
abbrev buf_1 (t : Fin cfg0.N) : Memref sig .tc .vmem S3x2048 .f32 := win0_1.stage (cfg0.slots t 1)
/-- The buffer of window 1 is a whole one. -/
abbrev whole_1 (t : Fin cfg0.N) : (buf_1 t).IsWhole := hstage0_1 ((cfg0.slots t 1).cast nbuf0_1)
/-- The buffer the body reads operand 2 from at a point. -/
abbrev buf_2 (t : Fin cfg0.N) : Memref sig .tc .vmem S2048x3 .f32 := win0_2.stage (cfg0.slots t 2)
/-- The buffer of window 2 is a whole one. -/
abbrev whole_2 (t : Fin cfg0.N) : (buf_2 t).IsWhole := hstage0_2 ((cfg0.slots t 2).cast nbuf0_2)
/-- The buffer the body reads operand 3 from at a point. -/
abbrev buf_3 (t : Fin cfg0.N) : Memref sig .tc .vmem S3x2048 .f32 := win0_3.stage (cfg0.slots t 3)
/-- The buffer of window 3 is a whole one. -/
abbrev whole_3 (t : Fin cfg0.N) : (buf_3 t).IsWhole := hstage0_3 ((cfg0.slots t 3).cast nbuf0_3)
/-- The buffer the body reads operand 4 from at a point. -/
abbrev buf_4 (t : Fin cfg0.N) : Memref sig .tc .vmem S2048x9 .f32 := win0_4.stage (cfg0.slots t 4)
/-- The buffer of window 4 is a whole one. -/
abbrev whole_4 (t : Fin cfg0.N) : (buf_4 t).IsWhole := hstage0_4 ((cfg0.slots t 4).cast nbuf0_4)
/-- The buffer the body reads operand 5 from at a point. -/
abbrev buf_5 (t : Fin cfg0.N) : Memref sig .tc .vmem S2048x128 .f32 := win0_5.stage (cfg0.slots t 5)
/-- The buffer of window 5 is a whole one. -/
abbrev whole_5 (t : Fin cfg0.N) : (buf_5 t).IsWhole := hstage0_5 ((cfg0.slots t 5).cast nbuf0_5)
/-- The buffer the body reads operand 6 from at a point. -/
abbrev buf_6 (t : Fin cfg0.N) : Memref sig .tc .vmem S128x64 .f32 := win0_6.stage (cfg0.slots t 6)
/-- The buffer of window 6 is a whole one. -/
abbrev whole_6 (t : Fin cfg0.N) : (buf_6 t).IsWhole := hstage0_6 ((cfg0.slots t 6).cast nbuf0_6)
/-- The buffer the body reads operand 7 from at a point. -/
abbrev buf_7 (t : Fin cfg0.N) : Memref sig .tc .vmem S1x64 .f32 := win0_7.stage (cfg0.slots t 7)
/-- The buffer of window 7 is a whole one. -/
abbrev whole_7 (t : Fin cfg0.N) : (buf_7 t).IsWhole := hstage0_7 ((cfg0.slots t 7).cast nbuf0_7)
/-- The buffer the body reads operand 8 from at a point. -/
abbrev buf_8 (t : Fin cfg0.N) : Memref sig .tc .vmem S64x64 .f32 := win0_8.stage (cfg0.slots t 8)
/-- The buffer of window 8 is a whole one. -/
abbrev whole_8 (t : Fin cfg0.N) : (buf_8 t).IsWhole := hstage0_8 ((cfg0.slots t 8).cast nbuf0_8)
/-- The buffer the body reads operand 9 from at a point. -/
abbrev buf_9 (t : Fin cfg0.N) : Memref sig .tc .vmem S1x64 .f32 := win0_9.stage (cfg0.slots t 9)
/-- The buffer of window 9 is a whole one. -/
abbrev whole_9 (t : Fin cfg0.N) : (buf_9 t).IsWhole := hstage0_9 ((cfg0.slots t 9).cast nbuf0_9)
/-- The buffer the body reads operand 10 from at a point. -/
abbrev buf_10 (t : Fin cfg0.N) : Memref sig .tc .vmem S1x64 .f32 := win0_10.stage (cfg0.slots t 10)
/-- The buffer of window 10 is a whole one. -/
abbrev whole_10 (t : Fin cfg0.N) : (buf_10 t).IsWhole := hstage0_10 ((cfg0.slots t 10).cast nbuf0_10)
/-- The buffer the body reads operand 11 from at a point. -/
abbrev buf_11 (t : Fin cfg0.N) : Memref sig .tc .vmem S1x64 .f32 := win0_11.stage (cfg0.slots t 11)
/-- The buffer of window 11 is a whole one. -/
abbrev whole_11 (t : Fin cfg0.N) : (buf_11 t).IsWhole := hstage0_11 ((cfg0.slots t 11).cast nbuf0_11)
/-- The buffer the body reads operand 12 from at a point. -/
abbrev buf_12 (t : Fin cfg0.N) : Memref sig .tc .smem S8x3 .f32 := win0_12.stage (cfg0.slots t 12)
/-- The buffer of window 12 is a whole one. -/
abbrev whole_12 (t : Fin cfg0.N) : (buf_12 t).IsWhole := hstage0_12 ((cfg0.slots t 12).cast nbuf0_12)
/-- The buffer the body reads operand 13 from at a point. -/
abbrev buf_13 (t : Fin cfg0.N) : Memref sig .tc .smem S8 .f32 := win0_13.stage (cfg0.slots t 13)
/-- The buffer of window 13 is a whole one. -/
abbrev whole_13 (t : Fin cfg0.N) : (buf_13 t).IsWhole := hstage0_13 ((cfg0.slots t 13).cast nbuf0_13)
/-- The buffer the body reads operand 14 from at a point. -/
abbrev buf_14 (t : Fin cfg0.N) : Memref sig .tc .vmem S8x64 .f32 := win0_14.stage (cfg0.slots t 14)
/-- The buffer of window 14 is a whole one. -/
abbrev whole_14 (t : Fin cfg0.N) : (buf_14 t).IsWhole := hstage0_14 ((cfg0.slots t 14).cast nbuf0_14)
/-- The buffer the body reads operand 15 from at a point. -/
abbrev buf_15 (t : Fin cfg0.N) : Memref sig .tc .vmem S1x64 .f32 := win0_15.stage (cfg0.slots t 15)
/-- The buffer of window 15 is a whole one. -/
abbrev whole_15 (t : Fin cfg0.N) : (buf_15 t).IsWhole := hstage0_15 ((cfg0.slots t 15).cast nbuf0_15)
/-- The buffer the body reads operand 16 from at a point. -/
abbrev buf_16 (t : Fin cfg0.N) : Memref sig .tc .vmem S64x128 .f32 := win0_16.stage (cfg0.slots t 16)
/-- The buffer of window 16 is a whole one. -/
abbrev whole_16 (t : Fin cfg0.N) : (buf_16 t).IsWhole := hstage0_16 ((cfg0.slots t 16).cast nbuf0_16)
/-- The buffer the body reads operand 17 from at a point. -/
abbrev buf_17 (t : Fin cfg0.N) : Memref sig .tc .vmem S1x128 .f32 := win0_17.stage (cfg0.slots t 17)
/-- The buffer of window 17 is a whole one. -/
abbrev whole_17 (t : Fin cfg0.N) : (buf_17 t).IsWhole := hstage0_17 ((cfg0.slots t 17).cast nbuf0_17)
/-- The buffer the body reads operand 18 from at a point. -/
abbrev buf_18 (t : Fin cfg0.N) : Memref sig .tc .vmem S128x128 .f32 := win0_18.stage (cfg0.slots t 18)
/-- The buffer of window 18 is a whole one. -/
abbrev whole_18 (t : Fin cfg0.N) : (buf_18 t).IsWhole := hstage0_18 ((cfg0.slots t 18).cast nbuf0_18)
/-- The buffer the body reads operand 19 from at a point. -/
abbrev buf_19 (t : Fin cfg0.N) : Memref sig .tc .vmem S1x128 .f32 := win0_19.stage (cfg0.slots t 19)
/-- The buffer of window 19 is a whole one. -/
abbrev whole_19 (t : Fin cfg0.N) : (buf_19 t).IsWhole := hstage0_19 ((cfg0.slots t 19).cast nbuf0_19)
/-- The buffer the body reads operand 20 from at a point. -/
abbrev buf_20 (t : Fin cfg0.N) : Memref sig .tc .vmem S1x128 .f32 := win0_20.stage (cfg0.slots t 20)
/-- The buffer of window 20 is a whole one. -/
abbrev whole_20 (t : Fin cfg0.N) : (buf_20 t).IsWhole := hstage0_20 ((cfg0.slots t 20).cast nbuf0_20)
/-- The buffer the body reads operand 21 from at a point. -/
abbrev buf_21 (t : Fin cfg0.N) : Memref sig .tc .vmem S1x128 .f32 := win0_21.stage (cfg0.slots t 21)
/-- The buffer of window 21 is a whole one. -/
abbrev whole_21 (t : Fin cfg0.N) : (buf_21 t).IsWhole := hstage0_21 ((cfg0.slots t 21).cast nbuf0_21)
/-- The buffer the body reads operand 22 from at a point. -/
abbrev buf_22 (t : Fin cfg0.N) : Memref sig .tc .vmem S2048x128 .f32 := win0_22.stage (cfg0.slots t 22)
/-- The buffer of window 22 is a whole one. -/
abbrev whole_22 (t : Fin cfg0.N) : (buf_22 t).IsWhole := hstage0_22 ((cfg0.slots t 22).cast nbuf0_22)

/-- The scratch holding the hidden features. -/
abbrev featBuf : Memref sig .tc .vmem S2048x64 .f32 := Memref.whole cc0_scratch0
/-- The scratch holding the rows before the last normalisation. -/
abbrev rowBuf : Memref sig .tc .vmem S2048x128 .f32 := Memref.whole cc0_scratch1

/-- The launch's invariant: the two scratch buffers at some contents and the generator register at some state. -/
theorem start_eq (c : Dev nD) :
    (Pipeline.ΦA spec0 c : sProp 𝕄)
      = iprop(iprop((∃ d, owns (c : Thread nD τ) featBuf fullShare d) ∗ (∃ d, owns (c : Thread nD τ) rowBuf fullShare d)) ∗ (∃ r, prngReg c r)) := by
  unfold Pipeline.ΦA; rw [scopedRest0_eq]; simp only [featBuf, rowBuf, owns_whole]; try rfl

end Cert.KernelIdeal.Hand

end
-- ==== Proof.RunFirst.lean ====
/-
  The kernel body run at the first grid point: it fills the hidden-feature scratch and the first half of the row scratch, and leaves the result alone.
-/
module

public import proofs.«01_k».proof.Proof.Cases

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the first grid point: from every input held at its contents and the result's buffer and the two scratch buffers held at anything, it runs to the inputs unchanged,
    the result's buffer as found, and the two scratch buffers with the listed pieces written. -/
def runFirst (c : Dev nD) (i : grid0.Coords) (arg1 : Memref sig .tc .vmem S2048x3 .f32) (harg1 : arg1.IsWhole) (arg2 : Memref sig .tc .vmem S3x2048 .f32) (harg2 : arg2.IsWhole) (arg3 : Memref sig .tc .vmem S2048x3 .f32) (harg3 : arg3.IsWhole) (arg4 : Memref sig .tc .vmem S3x2048 .f32) (harg4 : arg4.IsWhole) (arg5 : Memref sig .tc .vmem S2048x9 .f32) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .smem S8x3 .f32) (harg13 : arg13.IsWhole) (arg14 : Memref sig .tc .smem S8 .f32) (harg14 : arg14.IsWhole) (arg15 : Memref sig .tc .vmem S8x64 .f32) (harg15 : arg15.IsWhole) (arg16 : Memref sig .tc .vmem S1x64 .f32) (harg16 : arg16.IsWhole) (arg17 : Memref sig .tc .vmem S64x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S2048x128 .f32) (harg23 : arg23.IsWhole) (arg24 : Memref sig .tc .vmem S2048x64 .f32) (harg24 : arg24.IsWhole) (arg25 : Memref sig .tc .vmem S2048x128 .f32) (harg25 : arg25.IsWhole) (hc0 : first i) (hc1 : ¬last i)
    (x0 : Vec F S2048x3 .f32) (x1 : Vec F S3x2048 .f32) (x2 : Vec F S2048x3 .f32) (x3 : Vec F S3x2048 .f32) (x4 : Vec F S2048x9 .f32) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) (x12 : Vec F S8x3 .f32) (x13 : Vec F S8 .f32) (x14 : Vec F S8x64 .f32) (x15 : Vec F S1x64 .f32) (x16 : Vec F S64x128 .f32) (x17 : Vec F S1x128 .f32) (x18 : Vec F S128x128 .f32) (x19 : Vec F S1x128 .f32) (x20 : Vec F S1x128 .f32) (x21 : Vec F S1x128 .f32) (xo : Vec F S2048x128 .f32) :
    { L : List (View.Piece (Elt F) S2048x64 .f32) × List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xo ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare xo ∗ (∃ f, arg24.view.loc (c : Thread nD τ) ↦[arg24.view.set]{fullShare} arg24.view.writes (Elt F) f L.1) ∗ (∃ f, arg25.view.loc (c : Thread nD τ) ↦[arg25.view.set]{fullShare} arg25.view.writes (Elt F) f L.2)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨(?_, ?_), fun E K => ?run⟩
  case run =>
    simp only [cc0__body_eq_skeleton]; unfold cc0__body_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [HS0]; · iexists _; iexact HS0
    iexists _; iexact HS1

end Cert.KernelIdeal.Hand

end
-- ==== Proof.RunLast.lean ====
/-
  The kernel body run at the last grid point: it fills the second half of the row scratch and stores the normalised rows as the result.
-/
module

public import proofs.«01_k».proof.Proof.RunFirst

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The body at the last grid point: from every input held at its contents, the hidden features and the rows held at given contents and the result's buffer at anything, it runs to
    the inputs and the hidden features unchanged, the rows at something, and the result's buffer with the listed pieces written. -/
def runLast (c : Dev nD) (i : grid0.Coords) (arg1 : Memref sig .tc .vmem S2048x3 .f32) (harg1 : arg1.IsWhole) (arg2 : Memref sig .tc .vmem S3x2048 .f32) (harg2 : arg2.IsWhole) (arg3 : Memref sig .tc .vmem S2048x3 .f32) (harg3 : arg3.IsWhole) (arg4 : Memref sig .tc .vmem S3x2048 .f32) (harg4 : arg4.IsWhole) (arg5 : Memref sig .tc .vmem S2048x9 .f32) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .smem S8x3 .f32) (harg13 : arg13.IsWhole) (arg14 : Memref sig .tc .smem S8 .f32) (harg14 : arg14.IsWhole) (arg15 : Memref sig .tc .vmem S8x64 .f32) (harg15 : arg15.IsWhole) (arg16 : Memref sig .tc .vmem S1x64 .f32) (harg16 : arg16.IsWhole) (arg17 : Memref sig .tc .vmem S64x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S2048x128 .f32) (harg23 : arg23.IsWhole) (arg24 : Memref sig .tc .vmem S2048x64 .f32) (harg24 : arg24.IsWhole) (arg25 : Memref sig .tc .vmem S2048x128 .f32) (harg25 : arg25.IsWhole) (hc0 : ¬first i) (hc1 : last i)
    (x0 : Vec F S2048x3 .f32) (x1 : Vec F S3x2048 .f32) (x2 : Vec F S2048x3 .f32) (x3 : Vec F S3x2048 .f32) (x4 : Vec F S2048x9 .f32) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) (x12 : Vec F S8x3 .f32) (x13 : Vec F S8 .f32) (x14 : Vec F S8x64 .f32) (x15 : Vec F S1x64 .f32) (x16 : Vec F S64x128 .f32) (x17 : Vec F S1x128 .f32) (x18 : Vec F S128x128 .f32) (x19 : Vec F S1x128 .f32) (x20 : Vec F S1x128 .f32) (x21 : Vec F S1x128 .f32) (xf : Vec F S2048x64 .f32) (xr : Vec F S2048x128 .f32) :
    { L : List (View.Piece (Elt F) S2048x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ d, owns (c : Thread nD τ) arg23 fullShare d) ∗ owns (c : Thread nD τ) arg24 fullShare xf ∗ owns (c : Thread nD τ) arg25 fullShare xr
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ (∃ f, arg23.view.loc (c : Thread nD τ) ↦[arg23.view.set]{fullShare} arg23.view.writes (Elt F) f L) ∗ owns (c : Thread nD τ) arg24 fullShare xf ∗ (∃ d, owns (c : Thread nD τ) arg25 fullShare d)) -∗ K ⟨⟩))
          ⊢ wp frame (wpE (defs₀ (F := F)) Variants.none c none) E (cc0__body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, fun E K => ?run⟩
  case run =>
    simp only [cc0__body_eq_skeleton]; unfold cc0__body_skel
    simp only [k0_part6_eq_skeleton, k0_part7_eq_skeleton, k0_part8_eq_skeleton, k0_part9_eq_skeleton, k0_part10_eq_skeleton, k0_part11_eq_skeleton, k0_part12_eq_skeleton, k0_part13_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg24.eq_unread hfs0; obtain rfl := harg25.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]; · iexists _; iexact H22
    isplitl [HS0]
    · iexists _; isplitr; · ipureintro; exact harg24.read_unread _
      iexact HS0
    iexists _, _; isplitr; swap; · iexact HS1
    ipureintro; rfl

end Cert.KernelIdeal.Hand

end
-- ==== Proof.ReadNorm.lean ====
module

public import proofs.«01_k».proof.Proof.Gen.KernelIdeal.Skeleton
public import Idealize.ShloMosaic.Lib.Pointwise
public import proofs.«01_k».proof.Proof.Layer

@[expose] public section

set_option maxRecDepth 16384

/-! The value the first grid point leaves in the feature scratch, and the value the last one
    leaves in the output, read at an index. -/

noncomputable section

namespace Cert.KernelIdeal.Hand

open Idealize.ShloMosaic Cert.KernelIdeal Cert.KernelIdeal.Gen Cert.Layer Cert.Algebra
open scoped BigOperators

section
variable {F : FTy → Type} [FloatOps F] [Named F]

/-- The feature scratch after the first grid point, from the arrays loaded: features, the two hidden layers' weights and
    offsets, gains, offsets. -/
def firstOut (x : Vec F S2048x128 .f32) (w1 : Vec F S128x64 .f32) (b1 : Vec F S1x64 .f32) (w2 : Vec F S64x64 .f32)
    (b2 : Vec F S1x64 .f32) (g : Vec F S1x64 .f32) (b : Vec F S1x64 .f32) : FVec F S2048x64 .f32 :=
  k0_pay45 (k0_pay2 x w1 b1 w2 b2)
    (k0_pay11 (k0_pay3 g) (k0_pay7 x w1 b1 w2 b2) (k0_pay8 x w1 b1 w2 b2))
    (k0_pay12 (k0_pay3 g) (k0_pay4 b) (k0_pay7 x w1 b1 w2 b2) (k0_pay8 x w1 b1 w2 b2))
    (k0_pay15 (k0_pay3 g) (k0_pay6 x w1 b1 w2 b2) (k0_pay7 x w1 b1 w2 b2))
    (k0_pay16 (k0_pay3 g) (k0_pay4 b) (k0_pay6 x w1 b1 w2 b2) (k0_pay7 x w1 b1 w2 b2))
    (k0_pay19 (k0_pay3 g) (k0_pay6 x w1 b1 w2 b2) (k0_pay7 x w1 b1 w2 b2))
    (k0_pay20 (k0_pay3 g) (k0_pay4 b) (k0_pay6 x w1 b1 w2 b2) (k0_pay7 x w1 b1 w2 b2))
    (k0_pay21 (k0_pay6 x w1 b1 w2 b2))
    (k0_pay22 (k0_pay6 x w1 b1 w2 b2) (k0_pay7 x w1 b1 w2 b2))
    (k0_pay23 (k0_pay3 g) (k0_pay6 x w1 b1 w2 b2) (k0_pay7 x w1 b1 w2 b2))
    (k0_pay24 (k0_pay4 b)) (k0_pay25 (k0_pay3 g))

/-- The output after the last grid point, from the row scratch, the gains and the offsets. -/
def lastOut (z : Vec F S2048x128 .f32) (g : Vec F S1x128 .f32) (b : Vec F S1x128 .f32) : FVec F S2048x128 .f32 :=
  k0_pay1 z (k0_pay26 g) (k0_pay27 b) (k0_pay30 z) (k0_pay33 z g) (k0_pay34 z g b)
    (k0_pay38 (k0_pay26 g) (k0_pay35 z) (k0_pay36 z))
    (k0_pay39 (k0_pay26 g) (k0_pay27 b) (k0_pay35 z) (k0_pay36 z))
    (k0_pay42 (k0_pay26 g) (k0_pay29 z) (k0_pay30 z))
    (k0_pay43 (k0_pay26 g) (k0_pay27 b) (k0_pay29 z) (k0_pay30 z))
    (k0_pay44 (k0_pay29 z))
end

/-- The scalar root at an extended real. -/
theorem scalar_sqrt (x : Ideal .f32) : Scalar.sqrt x = Ideal.sqrt x := rfl

/-- The two hidden layers at a row and a column. -/
theorem hidden_apply (x : Vec Ideal S2048x128 .f32) (w1 b1 w2 b2) (p : Fin 2048) (c : Fin 64) :
    k0_pay2 (F := Ideal) x w1 b1 w2 b2 (ix2 p c)
      = dense (dense (fun k => x (ix2 p k)) (fun k o => w1 (ix2 k o)) fun o => b1 (ix2 0 o)) (fun k o => w2 (ix2 k o)) (fun o => b2 (ix2 0 o)) c := by
  unfold k0_pay2
  pointwise [dot_S2048x128_S128x64_S2048x64_1_0_0_1_n_n, dot_S2048x64_S64x64_S2048x64_1_0_0_1_n_n]
  rfl

/-- The column sums of the hidden features. -/
theorem colsum64 (x : Vec Ideal S2048x128 .f32) (w1 b1 w2 b2) (c : Fin 64) :
    k0_pay6 (F := Ideal) x w1 b1 w2 b2 (ix2 0 c) = ∑ p : Fin 2048, k0_pay2 (F := Ideal) x w1 b1 w2 b2 (ix2 p c) := by
  unfold k0_pay6 k0_pay5
  pointwise [dot_S1x2048_S2048x64_S1x64_1_0_0_1_n_n]

/-- The column sums of the squares of the hidden features. -/
theorem colsq64 (x : Vec Ideal S2048x128 .f32) (w1 b1 w2 b2) (c : Fin 64) :
    k0_pay7 (F := Ideal) x w1 b1 w2 b2 (ix2 0 c)
      = ∑ p : Fin 2048, k0_pay2 (F := Ideal) x w1 b1 w2 b2 (ix2 p c) * k0_pay2 (F := Ideal) x w1 b1 w2 b2 (ix2 p c) := by
  unfold k0_pay7 k0_pay5
  pointwise [dot_S1x2048_S2048x64_S1x64_1_0_0_1_n_n]

/-- The feature scratch at a row and a column: the group normalisation of the two hidden layers. -/
theorem firstOut_apply (x : Vec Ideal S2048x128 .f32) (w1 b1 w2 b2 g b) (p : Fin 2048) (c : Fin 64) :
    firstOut (F := Ideal) x w1 b1 w2 b2 g b (ix2 p c)
      = norm1 col64 (Ideal.ofBits .f32 0x47000000#32) (Ideal.ofBits .f32 0x3727C5AC#32)
          (fun p => dense (dense (fun k => x (ix2 p k)) (fun k o => w1 (ix2 k o)) fun o => b1 (ix2 0 o)) (fun k o => w2 (ix2 k o)) (fun o => b2 (ix2 0 o)))
          (fun c => g (ix2 0 c)) (fun c => b (ix2 0 c)) p c := by
  unfold norm1 inv1 mean
  simp only [← hidden_apply]
  unfold firstOut k0_pay45
  pointwise
  have hlt := c.isLt
  by_cases h0 : c.val < 16
  · have hc : col64 c = fun k => ⟨k.val, by omega⟩ := by
      funext k; unfold col64; apply Fin.ext; simp only; omega
    unfold k0_pay11 k0_pay12 k0_pay9 k0_pay10 k0_pay8 k0_pay9 k0_pay3 k0_pay4
    pointwise [hc, dif_pos h0, colsum64, colsq64, scalar_sqrt, Finset.univ_unique, Finset.sum_singleton]
  by_cases h1 : c.val < 32
  · have h1' : c.val - 16 < 16 := by omega
    have hc : col64 c = fun k => ⟨16 + k.val, by omega⟩ := by
      funext k; unfold col64; apply Fin.ext; simp only; omega
    have he : (⟨16 + (c.val - 16), by omega⟩ : Fin 64) = c := Fin.ext (by simp only; omega)
    unfold k0_pay15 k0_pay16 k0_pay14 k0_pay13 k0_pay3 k0_pay4
    pointwise [hc, dif_neg h0, dif_pos h1', he, colsum64, colsq64, scalar_sqrt, Finset.univ_unique, Finset.sum_singleton]
  by_cases h2 : c.val < 48
  · have h1' : ¬ c.val - 16 < 16 := by omega
    have h2' : c.val - 16 - 16 < 16 := by omega
    have hc : col64 c = fun k => ⟨32 + k.val, by omega⟩ := by
      funext k; unfold col64; apply Fin.ext; simp only; omega
    have he : (⟨32 + (c.val - 16 - 16), by omega⟩ : Fin 64) = c := Fin.ext (by simp only; omega)
    unfold k0_pay19 k0_pay20 k0_pay18 k0_pay17 k0_pay3 k0_pay4
    pointwise [hc, dif_neg h0, dif_neg h1', dif_pos h2', he, colsum64, colsq64, scalar_sqrt, Finset.univ_unique, Finset.sum_singleton]
  · have h1' : ¬ c.val - 16 < 16 := by omega
    have h2' : ¬ c.val - 16 - 16 < 16 := by omega
    have hc : col64 c = fun k => ⟨48 + k.val, by omega⟩ := by
      funext k; unfold col64; apply Fin.ext; simp only; omega
    have he : (⟨48 + (c.val - 16 - 16 - 16), by omega⟩ : Fin 64) = c := Fin.ext (by simp only; omega)
    unfold k0_pay23 k0_pay24 k0_pay25 k0_pay22 k0_pay21 k0_pay3 k0_pay4
    pointwise [hc, dif_neg h0, dif_neg h1', dif_neg h2', he, colsum64, colsq64, scalar_sqrt, Finset.univ_unique, Finset.sum_singleton]

/-- The column sums of the rows. -/
theorem colsum128 (z : Vec Ideal S2048x128 .f32) (c : Fin 128) :
    k0_pay29 (F := Ideal) z (ix2 0 c) = ∑ p : Fin 2048, z (ix2 p c) := by
  unfold k0_pay29 k0_pay28
  pointwise [dot_S1x2048_S2048x128_S1x128_1_0_0_1_n_n]

/-- The column sums of the squares of the rows. -/
theorem colsq128 (z : Vec Ideal S2048x128 .f32) (c : Fin 128) :
    k0_pay30 (F := Ideal) z (ix2 0 c) = ∑ p : Fin 2048, z (ix2 p c) * z (ix2 p c) := by
  unfold k0_pay30 k0_pay28
  pointwise [dot_S1x2048_S2048x128_S1x128_1_0_0_1_n_n]

/-- The output at a row and a column: the group normalisation of the row scratch. -/
theorem lastOut_apply (z : Vec Ideal S2048x128 .f32) (g b) (p : Fin 2048) (c : Fin 128) :
    lastOut (F := Ideal) z g b (ix2 p c)
      = norm1 col128 (Ideal.ofBits .f32 0x47800000#32) (Ideal.ofBits .f32 0x3727C5AC#32)
          (fun p c => z (ix2 p c)) (fun c => g (ix2 0 c)) (fun c => b (ix2 0 c)) p c := by
  unfold norm1 inv1 mean
  unfold lastOut k0_pay1
  pointwise
  have hlt := c.isLt
  by_cases h0 : c.val < 32
  · have hc : col128 c = fun k => ⟨k.val, by omega⟩ := by
      funext k; unfold col128; apply Fin.ext; simp only; omega
    unfold k0_pay33 k0_pay34 k0_pay32 k0_pay31 k0_pay26 k0_pay27
    pointwise [hc, dif_pos h0, colsum128, colsq128, scalar_sqrt, Finset.univ_unique, Finset.sum_singleton]
  by_cases h1 : c.val < 64
  · have h1' : c.val - 32 < 32 := by omega
    have hc : col128 c = fun k => ⟨32 + k.val, by omega⟩ := by
      funext k; unfold col128; apply Fin.ext; simp only; omega
    have he : (⟨32 + (c.val - 32), by omega⟩ : Fin 128) = c := Fin.ext (by simp only; omega)
    unfold k0_pay38 k0_pay39 k0_pay37 k0_pay35 k0_pay36 k0_pay26 k0_pay27
    pointwise [hc, dif_neg h0, dif_pos h1', he, colsum128, colsq128, scalar_sqrt, Finset.univ_unique, Finset.sum_singleton]
  by_cases h2 : c.val < 96
  · have h1' : ¬ c.val - 32 < 32 := by omega
    have h2' : c.val - 32 - 32 < 32 := by omega
    have hc : col128 c = fun k => ⟨64 + k.val, by omega⟩ := by
      funext k; unfold col128; apply Fin.ext; simp only; omega
    have he : (⟨64 + (c.val - 32 - 32), by omega⟩ : Fin 128) = c := Fin.ext (by simp only; omega)
    unfold k0_pay42 k0_pay43 k0_pay41 k0_pay40 k0_pay26 k0_pay27
    pointwise [hc, dif_neg h0, dif_neg h1', dif_pos h2', he, colsum128, colsq128, scalar_sqrt, Finset.univ_unique, Finset.sum_singleton]
  · have h1' : ¬ c.val - 32 < 32 := by omega
    have h2' : ¬ c.val - 32 - 32 < 32 := by omega
    have hc : col128 c = fun k => ⟨96 + k.val, by omega⟩ := by
      funext k; unfold col128; apply Fin.ext; simp only; omega
    have he : (⟨96 + (c.val - 32 - 32 - 32), by omega⟩ : Fin 128) = c := Fin.ext (by simp only; omega)
    unfold k0_pay44 k0_pay26 k0_pay27
    pointwise [hc, dif_neg h0, dif_neg h1', dif_neg h2', he, colsum128, colsq128, scalar_sqrt, Finset.univ_unique, Finset.sum_singleton]

end Cert.KernelIdeal.Hand
-- ==== Proof.PiecesFeat.lean ====
/-
  The hidden features the first point stores, as a function of the arrays the body reads.
-/
module

public import proofs.«01_k».proof.Proof.RunLast
public import proofs.«01_k».proof.Proof.ReadNorm
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F] [Named F]

/-- A load of everything of a whole memref reads the contents. -/
theorem load_full {κ : Kind} {sp : Space} {s : Shape} {e : EltTy} (m : Memref sig κ sp s e) (h : m.IsWhole) (x : Vec F s e)
    {off : Fin s.rank → ℕ} (inb : ∀ a, off a + s.size a ≤ s.size a) :
    View.readAt (Elt F) m.view (Rect.unit off s.size inb).toLoadRect (h.unread x) = x := by
  rw [View.readAt_full]; exact h.read_unread x

/-- A load of a block of a whole memref reads the block of the contents. -/
theorem load_window {κ : Kind} {sp : Space} {s : Shape} {e : EltTy} (m : Memref sig κ sp s e) (h : m.IsWhole) (x : Vec F s e)
    {off size : Fin s.rank → ℕ} (inb : ∀ a, off a + size a ≤ s.size a) :
    View.readAt (Elt F) m.view (Rect.unit off size inb).toLoadRect (h.unread x) = VecWindow.window x off size inb := by
  rw [View.readAt_unit _ _ inb rfl inb]; exact congrArg (fun z => VecWindow.window z off size inb) (h.read_unread x)

/-- A value of the first branch by its payload (355). -/
theorem first_v355 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v355 c arg6 harg6 arg7 harg7 arg8 harg8 arg9 harg9 arg10 harg10 x5 x6 x7 x8 x9
      = k0_pay2 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (357). -/
theorem first_v357 (c : Dev nD) (arg11 : Memref sig .tc .vmem S1x64 .f32) (harg11 : arg11.IsWhole) (x10 : Vec F S1x64 .f32) :
    runFirst.sl.v357 c arg11 harg11 x10
      = k0_pay3 (F := F) (View.readAt (Elt F) arg11.view (Rect.unit ![0, 0] S1x64.size inb_S1x64_S1x64_0_0).toLoadRect (harg11.unread x10)) := rfl

/-- A value of the first branch by its payload (359). -/
theorem first_v359 (c : Dev nD) (arg12 : Memref sig .tc .vmem S1x64 .f32) (harg12 : arg12.IsWhole) (x11 : Vec F S1x64 .f32) :
    runFirst.sl.v359 c arg12 harg12 x11
      = k0_pay4 (F := F) (View.readAt (Elt F) arg12.view (Rect.unit ![0, 0] S1x64.size inb_S1x64_S1x64_0_0).toLoadRect (harg12.unread x11)) := rfl

/-- A value of the first branch by its payload (360). -/
theorem first_v360  :
    runFirst.sl.v360 (F := F)
      = k0_pay5 (F := F) := rfl

/-- A value of the first branch by its payload (361). -/
theorem first_v361 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v361 c arg6 harg6 arg7 harg7 arg8 harg8 arg9 harg9 arg10 harg10 x5 x6 x7 x8 x9
      = k0_pay6 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (363). -/
theorem first_v363 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v363 c arg6 harg6 arg7 harg7 arg8 harg8 arg9 harg9 arg10 harg10 x5 x6 x7 x8 x9
      = k0_pay7 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (366). -/
theorem first_v366 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v366 c arg6 harg6 arg7 harg7 arg8 harg8 arg9 harg9 arg10 harg10 x5 x6 x7 x8 x9
      = k0_pay8 (F := F) (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) := rfl

/-- A value of the first branch by its payload (369). -/
theorem first_v369 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v369 c arg6 harg6 arg7 harg7 arg8 harg8 arg9 harg9 arg10 harg10 x5 x6 x7 x8 x9
      = k0_pay9 (F := F) (runFirst.sl.v366 c arg6 harg6 arg7 harg7 arg8 harg8 arg9 harg9 arg10 harg10 x5 x6 x7 x8 x9) := rfl

/-- A value of the first branch by its payload (380). -/
theorem first_v380 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v380 c arg6 harg6 arg7 harg7 arg8 harg8 arg9 harg9 arg10 harg10 x5 x6 x7 x8 x9
      = k0_pay10 (F := F) (runFirst.sl.v363 c arg6 harg6 arg7 harg7 arg8 harg8 arg9 harg9 arg10 harg10 x5 x6 x7 x8 x9) (runFirst.sl.v366 c arg6 harg6 arg7 harg7 arg8 harg8 arg9 harg9 arg10 harg10 x5 x6 x7 x8 x9) := rfl

/-- A value of the first branch by its payload (383). -/
theorem first_v383 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.v383 c arg6 harg6 arg7 harg7 arg8 harg8 arg9 harg9 arg10 harg10 arg11 harg11 x5 x6 x7 x8 x9 x10
      = k0_pay11 (F := F) (runFirst.sl.v357 c arg11 harg11 x10) (runFirst.sl.v363 c arg6 harg6 arg7 harg7 arg8 harg8 arg9 harg9 arg10 harg10 x5 x6 x7 x8 x9) (runFirst.sl.v366 c arg6 harg6 arg7 harg7 arg8 harg8 arg9 harg9 arg10 harg10 x5 x6 x7 x8 x9) := rfl

/-- A value of the first branch by its payload (389). -/
theorem first_v389 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) :
    runFirst.sl.v389 c arg6 harg6 arg7 harg7 arg8 harg8 arg9 harg9 arg10 harg10 arg11 harg11 arg12 harg12 x5 x6 x7 x8 x9 x10 x11
      = k0_pay12 (F := F) (runFirst.sl.v357 c arg11 harg11 x10) (runFirst.sl.v359 c arg12 harg12 x11) (runFirst.sl.v363 c arg6 harg6 arg7 harg7 arg8 harg8 arg9 harg9 arg10 harg10 x5 x6 x7 x8 x9) (runFirst.sl.v366 c arg6 harg6 arg7 harg7 arg8 harg8 arg9 harg9 arg10 harg10 x5 x6 x7 x8 x9) := rfl

/-- A value of the first branch by its payload (395). -/
theorem first_v395 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v395 c arg6 harg6 arg7 harg7 arg8 harg8 arg9 harg9 arg10 harg10 x5 x6 x7 x8 x9
      = k0_pay13 (F := F) (runFirst.sl.v361 c arg6 harg6 arg7 harg7 arg8 harg8 arg9 harg9 arg10 harg10 x5 x6 x7 x8 x9) := rfl

/-- A value of the first branch by its payload (406). -/
theorem first_v406 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v406 c arg6 harg6 arg7 harg7 arg8 harg8 arg9 harg9 arg10 harg10 x5 x6 x7 x8 x9
      = k0_pay14 (F := F) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (409). -/
theorem first_v409 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.v409 c arg6 harg6 arg7 harg7 arg8 harg8 arg9 harg9 arg10 harg10 arg11 harg11 x5 x6 x7 x8 x9 x10
      = k0_pay15 (F := F) (runFirst.sl.v357 c arg11 harg11 x10) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (415). -/
theorem first_v415 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) :
    runFirst.sl.v415 c arg6 harg6 arg7 harg7 arg8 harg8 arg9 harg9 arg10 harg10 arg11 harg11 arg12 harg12 x5 x6 x7 x8 x9 x10 x11
      = k0_pay16 (F := F) (runFirst.sl.v357 c arg11 harg11 x10) (runFirst.sl.v359 c arg12 harg12 x11) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (421). -/
theorem first_v421 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v421 c arg6 harg6 arg7 harg7 arg8 harg8 arg9 harg9 arg10 harg10 x5 x6 x7 x8 x9
      = k0_pay17 (F := F) (runFirst.sl.v361 c arg6 harg6 arg7 harg7 arg8 harg8 arg9 harg9 arg10 harg10 x5 x6 x7 x8 x9) := rfl

/-- A value of the first branch by its payload (432). -/
theorem first_v432 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v432 c arg6 harg6 arg7 harg7 arg8 harg8 arg9 harg9 arg10 harg10 x5 x6 x7 x8 x9
      = k0_pay18 (F := F) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (435). -/
theorem first_v435 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.v435 c arg6 harg6 arg7 harg7 arg8 harg8 arg9 harg9 arg10 harg10 arg11 harg11 x5 x6 x7 x8 x9 x10
      = k0_pay19 (F := F) (runFirst.sl.v357 c arg11 harg11 x10) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (441). -/
theorem first_v441 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) :
    runFirst.sl.v441 c arg6 harg6 arg7 harg7 arg8 harg8 arg9 harg9 arg10 harg10 arg11 harg11 arg12 harg12 x5 x6 x7 x8 x9 x10 x11
      = k0_pay20 (F := F) (runFirst.sl.v357 c arg11 harg11 x10) (runFirst.sl.v359 c arg12 harg12 x11) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (447). -/
theorem first_v447 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v447 c arg6 harg6 arg7 harg7 arg8 harg8 arg9 harg9 arg10 harg10 x5 x6 x7 x8 x9
      = k0_pay21 (F := F) (runFirst.sl.v361 c arg6 harg6 arg7 harg7 arg8 harg8 arg9 harg9 arg10 harg10 x5 x6 x7 x8 x9) := rfl

/-- A value of the first branch by its payload (458). -/
theorem first_v458 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (x5 : Vec F S2048x128 .f32) (x6 : Vec F S128x64 .f32) (x7 : Vec F S1x64 .f32) (x8 : Vec F S64x64 .f32) (x9 : Vec F S1x64 .f32) :
    runFirst.sl.v458 c arg6 harg6 arg7 harg7 arg8 harg8 arg9 harg9 arg10 harg10 x5 x6 x7 x8 x9
      = k0_pay22 (F := F) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (461). -/
theorem first_v461 (c : Dev nD) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (x5 : Vec F S2048x128 .f32) (x6 : Vec F S128x64 .f32) (x7 : Vec F S1x64 .f32) (x8 : Vec F S64x64 .f32) (x9 : Vec F S1x64 .f32) (x10 : Vec F S1x64 .f32) :
    runFirst.sl.v461 c arg6 harg6 arg7 harg7 arg8 harg8 arg9 harg9 arg10 harg10 arg11 harg11 x5 x6 x7 x8 x9 x10
      = k0_pay23 (F := F) (runFirst.sl.v357 c arg11 harg11 x10) (runFirst.sl.v361 c arg6 harg6 arg7 harg7 arg8 harg8 arg9 harg9 arg10 harg10 x5 x6 x7 x8 x9) (runFirst.sl.v363 c arg6 harg6 arg7 harg7 arg8 harg8 arg9 harg9 arg10 harg10 x5 x6 x7 x8 x9) := rfl

/-- A value of the first branch by its payload (462). -/
theorem first_v462 (c : Dev nD) (arg12 : Memref sig .tc .vmem S1x64 .f32) (harg12 : arg12.IsWhole) (x11 : Vec F S1x64 .f32) :
    runFirst.sl.v462 c arg12 harg12 x11
      = k0_pay24 (F := F) (runFirst.sl.v359 c arg12 harg12 x11) := rfl

/-- A value of the first branch by its payload (459). -/
theorem first_v459 (c : Dev nD) (arg11 : Memref sig .tc .vmem S1x64 .f32) (harg11 : arg11.IsWhole) (x10 : Vec F S1x64 .f32) :
    runFirst.sl.v459 c arg11 harg11 x10
      = k0_pay25 (F := F) (runFirst.sl.v357 c arg11 harg11 x10) := rfl

set_option maxHeartbeats 1000000 in
/-- The hidden features the first point stores. -/
theorem runFirst_feat (c : Dev nD) (i : grid0.Coords) (arg1 : Memref sig .tc .vmem S2048x3 .f32) (harg1 : arg1.IsWhole) (arg2 : Memref sig .tc .vmem S3x2048 .f32) (harg2 : arg2.IsWhole) (arg3 : Memref sig .tc .vmem S2048x3 .f32) (harg3 : arg3.IsWhole) (arg4 : Memref sig .tc .vmem S3x2048 .f32) (harg4 : arg4.IsWhole) (arg5 : Memref sig .tc .vmem S2048x9 .f32) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .smem S8x3 .f32) (harg13 : arg13.IsWhole) (arg14 : Memref sig .tc .smem S8 .f32) (harg14 : arg14.IsWhole) (arg15 : Memref sig .tc .vmem S8x64 .f32) (harg15 : arg15.IsWhole) (arg16 : Memref sig .tc .vmem S1x64 .f32) (harg16 : arg16.IsWhole) (arg17 : Memref sig .tc .vmem S64x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S2048x128 .f32) (harg23 : arg23.IsWhole) (arg24 : Memref sig .tc .vmem S2048x64 .f32) (harg24 : arg24.IsWhole) (arg25 : Memref sig .tc .vmem S2048x128 .f32) (harg25 : arg25.IsWhole) (hc0 : first i) (hc1 : ¬last i)
    (x0 : Vec F S2048x3 .f32) (x1 : Vec F S3x2048 .f32) (x2 : Vec F S2048x3 .f32) (x3 : Vec F S3x2048 .f32) (x4 : Vec F S2048x9 .f32) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) (x12 : Vec F S8x3 .f32) (x13 : Vec F S8 .f32) (x14 : Vec F S8x64 .f32) (x15 : Vec F S1x64 .f32) (x16 : Vec F S64x128 .f32) (x17 : Vec F S1x128 .f32) (x18 : Vec F S128x128 .f32) (x19 : Vec F S1x128 .f32) (x20 : Vec F S1x128 .f32) (x21 : Vec F S1x128 .f32) (xo : Vec F S2048x128 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xo).1.1
      = [⟨Rect.unit (s := S2048x64) ![0, 0] S2048x64.size inb_S2048x64_S2048x64_0_0, firstOut x5 x6 x7 x8 x9 x10 x11⟩] := by
  have h : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xo).1.1
      = [⟨Rect.unit (s := S2048x64) ![0, 0] S2048x64.size inb_S2048x64_S2048x64_0_0, k0_pay45 (runFirst.sl.v355 c arg6 harg6 arg7 harg7 arg8 harg8 arg9 harg9 arg10 harg10 x5 x6 x7 x8 x9) (runFirst.sl.v383 c arg6 harg6 arg7 harg7 arg8 harg8 arg9 harg9 arg10 harg10 arg11 harg11 x5 x6 x7 x8 x9 x10) (runFirst.sl.v389 c arg6 harg6 arg7 harg7 arg8 harg8 arg9 harg9 arg10 harg10 arg11 harg11 arg12 harg12 x5 x6 x7 x8 x9 x10 x11) (runFirst.sl.v409 c arg6 harg6 arg7 harg7 arg8 harg8 arg9 harg9 arg10 harg10 arg11 harg11 x5 x6 x7 x8 x9 x10) (runFirst.sl.v415 c arg6 harg6 arg7 harg7 arg8 harg8 arg9 harg9 arg10 harg10 arg11 harg11 arg12 harg12 x5 x6 x7 x8 x9 x10 x11) (runFirst.sl.v435 c arg6 harg6 arg7 harg7 arg8 harg8 arg9 harg9 arg10 harg10 arg11 harg11 x5 x6 x7 x8 x9 x10) (runFirst.sl.v441 c arg6 harg6 arg7 harg7 arg8 harg8 arg9 harg9 arg10 harg10 arg11 harg11 arg12 harg12 x5 x6 x7 x8 x9 x10 x11) (runFirst.sl.v447 c arg6 harg6 arg7 harg7 arg8 harg8 arg9 harg9 arg10 harg10 x5 x6 x7 x8 x9) (runFirst.sl.v458 c arg6 harg6 arg7 harg7 arg8 harg8 arg9 harg9 arg10 harg10 x5 x6 x7 x8 x9) (runFirst.sl.v461 c arg6 harg6 arg7 harg7 arg8 harg8 arg9 harg9 arg10 harg10 arg11 harg11 x5 x6 x7 x8 x9 x10) (runFirst.sl.v462 c arg12 harg12 x11) (runFirst.sl.v459 c arg11 harg11 x10)⟩] := rfl
  rw [h]
  have e6 : (View.readAt (Elt F) arg6.view (Rect.unit ![0, 0] S2048x128.size inb_S2048x128_S2048x128_0_0).toLoadRect (harg6.unread x5)) = x5 := load_full arg6 harg6 x5 _
  have e7 : (View.readAt (Elt F) arg7.view (Rect.unit ![0, 0] S128x64.size inb_S128x64_S128x64_0_0).toLoadRect (harg7.unread x6)) = x6 := load_full arg7 harg7 x6 _
  have e8 : (View.readAt (Elt F) arg8.view (Rect.unit ![0, 0] S1x64.size inb_S1x64_S1x64_0_0).toLoadRect (harg8.unread x7)) = x7 := load_full arg8 harg8 x7 _
  have e9 : (View.readAt (Elt F) arg9.view (Rect.unit ![0, 0] S64x64.size inb_S64x64_S64x64_0_0).toLoadRect (harg9.unread x8)) = x8 := load_full arg9 harg9 x8 _
  have e10 : (View.readAt (Elt F) arg10.view (Rect.unit ![0, 0] S1x64.size inb_S1x64_S1x64_0_0).toLoadRect (harg10.unread x9)) = x9 := load_full arg10 harg10 x9 _
  have e11 : (View.readAt (Elt F) arg11.view (Rect.unit ![0, 0] S1x64.size inb_S1x64_S1x64_0_0).toLoadRect (harg11.unread x10)) = x10 := load_full arg11 harg11 x10 _
  have e12 : (View.readAt (Elt F) arg12.view (Rect.unit ![0, 0] S1x64.size inb_S1x64_S1x64_0_0).toLoadRect (harg12.unread x11)) = x11 := load_full arg12 harg12 x11 _
  simp only [first_v355, first_v357, first_v359, first_v360, first_v361, first_v363, first_v366, first_v369, first_v380, first_v383, first_v389, first_v395, first_v406, first_v409, first_v415, first_v421, first_v432, first_v435, first_v441, first_v447, first_v458, first_v461, first_v462, first_v459]
  show [(⟨Rect.unit (s := S2048x64) ![0, 0] S2048x64.size inb_S2048x64_S2048x64_0_0, firstOut (View.readAt (Elt F) arg6.view (Rect.unit ![0, 0] S2048x128.size inb_S2048x128_S2048x128_0_0).toLoadRect (harg6.unread x5)) (View.readAt (Elt F) arg7.view (Rect.unit ![0, 0] S128x64.size inb_S128x64_S128x64_0_0).toLoadRect (harg7.unread x6)) (View.readAt (Elt F) arg8.view (Rect.unit ![0, 0] S1x64.size inb_S1x64_S1x64_0_0).toLoadRect (harg8.unread x7)) (View.readAt (Elt F) arg9.view (Rect.unit ![0, 0] S64x64.size inb_S64x64_S64x64_0_0).toLoadRect (harg9.unread x8)) (View.readAt (Elt F) arg10.view (Rect.unit ![0, 0] S1x64.size inb_S1x64_S1x64_0_0).toLoadRect (harg10.unread x9)) (View.readAt (Elt F) arg11.view (Rect.unit ![0, 0] S1x64.size inb_S1x64_S1x64_0_0).toLoadRect (harg11.unread x10)) (View.readAt (Elt F) arg12.view (Rect.unit ![0, 0] S1x64.size inb_S1x64_S1x64_0_0).toLoadRect (harg12.unread x11))⟩ : View.Piece (Elt F) S2048x64 .f32)] = _
  rw [e6, e7, e8, e9, e10, e11, e12]

end Cert.KernelIdeal.Hand

end
-- ==== Proof.ReadMid.lean ====
module

public import proofs.«01_k».proof.Proof.Gen.KernelIdeal.Skeleton
public import Idealize.ShloMosaic.Lib.Pointwise
public import proofs.«01_k».proof.Proof.Layer

@[expose] public section

set_option maxRecDepth 16384

/-! The rows a grid point writes to the row scratch, read at an index. -/

noncomputable section

namespace Cert.KernelIdeal.Hand

open Idealize.ShloMosaic Cert.KernelIdeal Cert.KernelIdeal.Gen Cert.Layer Cert.Algebra
open scoped BigOperators

section
variable {F : FTy → Type} [FloatOps F] [Named F]

/-- The rows one grid point writes, from the arrays loaded: its own points, all points (turned), its own normals, all
    normals (turned), its own frames, the features, the second mixing weights' offset row, the first mixing weights
    and offsets (scalars), the second mixing weights' rows, and the two output layers. -/
def midOut (v5 : Vec F S1024x3 .f32) (v8 : Vec F S3x2048 .f32) (v13 : Vec F S1024x3 .f32) (v33 : Vec F S3x2048 .f32)
    (v43 : Vec F S1024x9 .f32) (v46 : Vec F S2048x64 .f32) (v48 : Vec F S1x64 .f32) (a : Fin 8 → Fin 3 → Elt F .f32)
    (b : Fin 8 → Elt F .f32) (r : Fin 8 → Vec F S1x64 .f32) (v300 : Vec F S64x128 .f32) (v303 : Vec F S1x128 .f32)
    (v312 : Vec F S128x128 .f32) (v315 : Vec F S1x128 .f32) : FVec F S1024x128 .f32 :=
  have v7 := k0_pay46 v5
  have v11 := k0_pay47 v8
  have v16 := k0_pay49 (F := F)
  have v36 := k0_pay50 v13 v33
  have v37 := k0_pay51 v5 v8 v13 v33
  have v41 := k0_pay52 v36 v37
  have v44 := k0_pay53 v43
  have v45 := k0_pay54 v11 v16
  have v51 := k0_pay55 v36 v37 v46 v48
  have v77 := k0_pay56 v7 v11 v16 v36 v37 v43 v46 (a 0 0) (a 0 1) (a 0 2) (b 0)
  have v113 := k0_pay57 v7 v41 v44 v45 v46 v51 v77 (r 0) (a 1 0) (a 1 1) (a 1 2) (b 1) (r 1)
  have v144 := k0_pay61 v7 v41 v44 v45 v46 v113 (k0_pay58 v44 (a 2 0)) (k0_pay59 v44) (k0_pay60 (a 2 1)) (a 2 2) (b 2) (r 2)
  have v175 := k0_pay65 v41 v45 v46 v144 (k0_pay62 v44 (a 3 0) (a 3 1) (a 3 2)) (k0_pay63 v7 v44 (a 3 0) (a 3 1) (a 3 2)) (k0_pay64 (b 3)) (r 3)
  have v205 := k0_pay66 v7 v41 v44 v45 v46 (a 4 0) (a 4 1) (a 4 2) (b 4) (r 4)
  have v237 := k0_pay67 v7 v41 v44 v45 v46 v175 v205 (a 5 0) (a 5 1) (a 5 2) (b 5) (r 5)
  have v268 := k0_pay69 v7 v41 v44 v45 v46 v237 (k0_pay68 v44 (a 6 0) (a 6 1)) (a 6 2) (b 6) (r 6)
  have v290 := k0_pay70 v7 v44 v45 (a 7 0) (a 7 1) (a 7 2) (b 7)
  k0_pay71 v41 v46 v268 v290 (r 7) v300 v303 v312 v315
end

/-- The scale of the coordinates. -/
abbrev scale : EReal := Named.named (F := Ideal) (φ := FTy.f32) κ "inv_sqrt2" 0x3F3504F3#32

/-- The window entry of a block. -/
theorem window_apply (v5 v8 v13 v33) (i : Fin 1024) (j : Fin 2048) :
    k0_pay52 (F := Ideal) (k0_pay50 v13 v33) (k0_pay51 v5 v8 v13 v33) (ix2 i j)
      = winK (fun a => v5 (ix2 i a) * scale) (fun a => v8 (ix2 a j) * scale) (fun a => v13 (ix2 i a)) (fun a => v33 (ix2 a j)) := by
  have hf : k0_pay50 (F := Ideal) v13 v33 (ix2 i j) = facingK (fun a => v13 (ix2 i a)) (fun a => v33 (ix2 a j)) := by
    unfold k0_pay50 k0_pay48 k0_pay49 facingK
    pointwise [dot_S1024x4_S4x2048_S1024x2048_1_0_0_1_n_n, Finset.univ_unique, Finset.sum_singleton]
  have hd : k0_pay51 (F := Ideal) v5 v8 v13 v33 (ix2 i j)
      = distK (fun a => v5 (ix2 i a) * scale) (fun a => v8 (ix2 a j) * scale) * facingK (fun a => v13 (ix2 i a)) (fun a => v33 (ix2 a j)) := by
    unfold k0_pay51 k0_pay46 k0_pay47 k0_pay48 k0_pay49 distK
    pointwise [dot_S1024x5_S5x2048_S1024x2048_1_0_0_1_n_n, hf]
    simp [Fin.sum_univ_five, Fin.sum_univ_three]
  unfold k0_pay52 winK
  pointwise [hf, hd]

/-- One channel of the relative position at an entry of a block. -/
def chanAt (v7 : FVec Ideal S1024x3 .f32) (v11 : FVec Ideal S3x2048 .f32) (v43 : Vec Ideal S1024x9 .f32) (a0 a1 a2 b : EReal)
    (i : Fin 1024) (j : Fin 2048) : EReal :=
  chanK (dirK ![a0, a1, a2] fun k x => v43 (ix2 i ⟨3 * k.val + x.val, by have := k.isLt; have := x.isLt; omega⟩))
    (fun a => v7 (ix2 i a)) (fun a => v11 (ix2 a j)) b

/-- One channel's sum over all other points. -/
def chanSum (v7 : FVec Ideal S1024x3 .f32) (v11 : FVec Ideal S3x2048 .f32) (v41 : FVec Ideal S1024x2048 .f32) (v43 : Vec Ideal S1024x9 .f32)
    (v46 : Vec Ideal S2048x64 .f32) (a0 a1 a2 b : EReal) (i : Fin 1024) (h : Fin 64) : EReal :=
  ∑ j : Fin 2048, v41 (ix2 i j) * chanAt v7 v11 v43 a0 a1 a2 b i j * v46 (ix2 j h)

/-- The window sum times the offset. -/
theorem base_apply (v36 v37 v46 v48) (i : Fin 1024) (h : Fin 64) :
    k0_pay55 (F := Ideal) v36 v37 v46 v48 (ix2 i h)
      = (∑ j : Fin 2048, k0_pay52 v36 v37 (ix2 i j) * v46 (ix2 j h)) * v48 (ix2 0 h) := by
  unfold k0_pay55
  pointwise [dot_S1024x4_S4x2048_S1024x2048_1_0_0_1_n_n, dot_S1024x2048_S2048x64_S1024x64_1_0_0_1_n_n, Finset.univ_unique, Finset.sum_singleton]

/-- The first channel. -/
theorem chan0_apply (v7 v11 v36 v37 v43 v46 a0 a1 a2 b) (i : Fin 1024) (h : Fin 64) :
    k0_pay56 (F := Ideal) v7 v11 (k0_pay49 (F := Ideal)) v36 v37 v43 v46 a0 a1 a2 b (ix2 i h)
      = chanSum v7 v11 (k0_pay52 v36 v37) v43 v46 a0 a1 a2 b i h := by
  unfold chanSum chanAt chanK dirK k0_pay56 k0_pay54 k0_pay49 k0_pay53
  pointwise [dot_S1024x4_S4x2048_S1024x2048_1_0_0_1_n_n, dot_S1024x2048_S2048x64_S1024x64_1_0_0_1_n_n, Finset.univ_unique, Finset.sum_singleton]

/-- The first two channels added. -/
theorem chan1_apply (v7 v11 v41 v43 v46 v51 v77 r0 a0 a1 a2 b r) (i : Fin 1024) (h : Fin 64) :
    k0_pay57 (F := Ideal) v7 v41 (k0_pay53 v43) (k0_pay54 v11 (k0_pay49 (F := Ideal))) v46 v51 v77 r0 a0 a1 a2 b r (ix2 i h)
      = v51 (ix2 i h) + v77 (ix2 i h) * r0 (ix2 0 h) + chanSum v7 v11 v41 v43 v46 a0 a1 a2 b i h * r (ix2 0 h) := by
  unfold chanSum chanAt chanK dirK k0_pay57 k0_pay54 k0_pay49 k0_pay53
  pointwise [dot_S1024x4_S4x2048_S1024x2048_1_0_0_1_n_n, dot_S1024x2048_S2048x64_S1024x64_1_0_0_1_n_n, Finset.univ_unique, Finset.sum_singleton]

/-- The third channel added. -/
theorem chan2_apply (v7 v11 v41 v43 v46 v113 a0 a1 a2 b r) (i : Fin 1024) (h : Fin 64) :
    k0_pay61 (F := Ideal) v7 v41 (k0_pay53 v43) (k0_pay54 v11 (k0_pay49 (F := Ideal))) v46 v113 (k0_pay58 (k0_pay53 v43) a0) (k0_pay59 (k0_pay53 v43)) (k0_pay60 a1) a2 b r (ix2 i h)
      = v113 (ix2 i h) + chanSum v7 v11 v41 v43 v46 a0 a1 a2 b i h * r (ix2 0 h) := by
  unfold chanSum chanAt chanK dirK k0_pay61 k0_pay58 k0_pay59 k0_pay60 k0_pay54 k0_pay49 k0_pay53
  pointwise [dot_S1024x4_S4x2048_S1024x2048_1_0_0_1_n_n, dot_S1024x2048_S2048x64_S1024x64_1_0_0_1_n_n, Finset.univ_unique, Finset.sum_singleton]

/-- The fourth channel added. -/
theorem chan3_apply (v7 v11 v41 v43 v46 v144 a0 a1 a2 b r) (i : Fin 1024) (h : Fin 64) :
    k0_pay65 (F := Ideal) v41 (k0_pay54 v11 (k0_pay49 (F := Ideal))) v46 v144 (k0_pay62 (k0_pay53 v43) a0 a1 a2) (k0_pay63 v7 (k0_pay53 v43) a0 a1 a2) (k0_pay64 b) r (ix2 i h)
      = v144 (ix2 i h) + chanSum v7 v11 v41 v43 v46 a0 a1 a2 b i h * r (ix2 0 h) := by
  unfold chanSum chanAt chanK dirK k0_pay65 k0_pay63 k0_pay62 k0_pay64 k0_pay54 k0_pay49 k0_pay53
  pointwise [dot_S1024x4_S4x2048_S1024x2048_1_0_0_1_n_n, dot_S1024x2048_S2048x64_S1024x64_1_0_0_1_n_n, Finset.univ_unique, Finset.sum_singleton]

/-- The fifth channel. -/
theorem chan4_apply (v7 v11 v41 v43 v46 a0 a1 a2 b r) (i : Fin 1024) (h : Fin 64) :
    k0_pay66 (F := Ideal) v7 v41 (k0_pay53 v43) (k0_pay54 v11 (k0_pay49 (F := Ideal))) v46 a0 a1 a2 b r (ix2 i h)
      = chanSum v7 v11 v41 v43 v46 a0 a1 a2 b i h * r (ix2 0 h) := by
  unfold chanSum chanAt chanK dirK k0_pay66 k0_pay54 k0_pay49 k0_pay53
  pointwise [dot_S1024x4_S4x2048_S1024x2048_1_0_0_1_n_n, dot_S1024x2048_S2048x64_S1024x64_1_0_0_1_n_n, Finset.univ_unique, Finset.sum_singleton]

/-- The fifth and sixth channels added. -/
theorem chan5_apply (v7 v11 v41 v43 v46 v175 v205 a0 a1 a2 b r) (i : Fin 1024) (h : Fin 64) :
    k0_pay67 (F := Ideal) v7 v41 (k0_pay53 v43) (k0_pay54 v11 (k0_pay49 (F := Ideal))) v46 v175 v205 a0 a1 a2 b r (ix2 i h)
      = v175 (ix2 i h) + v205 (ix2 i h) + chanSum v7 v11 v41 v43 v46 a0 a1 a2 b i h * r (ix2 0 h) := by
  unfold chanSum chanAt chanK dirK k0_pay67 k0_pay54 k0_pay49 k0_pay53
  pointwise [dot_S1024x4_S4x2048_S1024x2048_1_0_0_1_n_n, dot_S1024x2048_S2048x64_S1024x64_1_0_0_1_n_n, Finset.univ_unique, Finset.sum_singleton]

/-- The seventh channel added. -/
theorem chan6_apply (v7 v11 v41 v43 v46 v237 a0 a1 a2 b r) (i : Fin 1024) (h : Fin 64) :
    k0_pay69 (F := Ideal) v7 v41 (k0_pay53 v43) (k0_pay54 v11 (k0_pay49 (F := Ideal))) v46 v237 (k0_pay68 (k0_pay53 v43) a0 a1) a2 b r (ix2 i h)
      = v237 (ix2 i h) + chanSum v7 v11 v41 v43 v46 a0 a1 a2 b i h * r (ix2 0 h) := by
  unfold chanSum chanAt chanK dirK k0_pay69 k0_pay68 k0_pay54 k0_pay49 k0_pay53
  pointwise [dot_S1024x4_S4x2048_S1024x2048_1_0_0_1_n_n, dot_S1024x2048_S2048x64_S1024x64_1_0_0_1_n_n, Finset.univ_unique, Finset.sum_singleton]

/-- The eighth channel before the cut at zero. -/
theorem chan7_apply (v7 v11 v43 a0 a1 a2 b) (i : Fin 1024) (j : Fin 2048) :
    max (k0_pay70 (F := Ideal) v7 (k0_pay53 v43) (k0_pay54 v11 (k0_pay49 (F := Ideal))) a0 a1 a2 b (ix2 i j)) 0 = chanAt v7 v11 v43 a0 a1 a2 b i j := by
  unfold chanAt chanK dirK k0_pay70 k0_pay54 k0_pay49 k0_pay53
  pointwise [dot_S1024x4_S4x2048_S1024x2048_1_0_0_1_n_n, Finset.univ_unique, Finset.sum_singleton]

/-- The last payload: the eighth channel added, then the two output layers. -/
theorem outer_apply (v41 v46 v268 v290 r v300 v303 v312 v315) (i : Fin 1024) (o : Fin 128) :
    k0_pay71 (F := Ideal) v41 v46 v268 v290 r v300 v303 v312 v315 (ix2 i o)
      = dense (dense (fun h => v268 (ix2 i h) + (∑ j : Fin 2048, v41 (ix2 i j) * max (v290 (ix2 i j)) 0 * v46 (ix2 j h)) * r (ix2 0 h))
          (fun k c => v300 (ix2 k c)) fun c => v303 (ix2 0 c)) (fun k c => v312 (ix2 k c)) (fun c => v315 (ix2 0 c)) o := by
  unfold k0_pay71
  pointwise [dot_S1024x64_S64x128_S1024x128_1_0_0_1_n_n, dot_S1024x128_S128x128_S1024x128_1_0_0_1_n_n, dot_S1024x2048_S2048x64_S1024x64_1_0_0_1_n_n]
  rfl

/-- THE ROWS OF ONE GRID POINT at a row and a column. -/
theorem midOut_apply (v5 v8 v13 v33 v43 v46 v48) (a : Fin 8 → Fin 3 → EReal) (b : Fin 8 → EReal) (r v300 v303 v312 v315) (i : Fin 1024) (o : Fin 128) :
    midOut (F := Ideal) v5 v8 v13 v33 v43 v46 v48 a b r v300 v303 v312 v315 (ix2 i o)
      = dense (dense (fun h => headK
            (fun j => winK (fun x => v5 (ix2 i x) * scale) (fun x => v8 (ix2 x j) * scale) (fun x => v13 (ix2 i x)) (fun x => v33 (ix2 x j)))
            (fun c j => chanK (dirK (a c) fun k x => v43 (ix2 i ⟨3 * k.val + x.val, by have := k.isLt; have := x.isLt; omega⟩))
              (fun x => v5 (ix2 i x) * scale) (fun x => v8 (ix2 x j) * scale) (b c))
            (fun j => v46 (ix2 j h)) (fun c => r c (ix2 0 h)) (v48 (ix2 0 h)))
          (fun k c => v300 (ix2 k c)) fun c => v303 (ix2 0 c)) (fun k c => v312 (ix2 k c)) (fun c => v315 (ix2 0 c)) o := by
  have ha : ∀ c, ![a c 0, a c 1, a c 2] = a c := fun c => by
    funext x; fin_cases x <;> rfl
  unfold midOut
  simp only [outer_apply, chan7_apply, chan6_apply, chan5_apply, chan4_apply, chan3_apply, chan2_apply, chan1_apply, chan0_apply, base_apply,
    chanSum, chanAt, window_apply, ha]
  unfold headK k0_pay46 k0_pay47
  pointwise

end Cert.KernelIdeal.Hand
-- ==== Proof.Pieces.lean ====
/-
  What the two runs of the kernel body store, as functions of the arrays the body reads.
-/
module

public import proofs.«01_k».proof.Proof.PiecesFeat
public import proofs.«01_k».proof.Proof.ReadMid
public import Idealize.ShloMosaic.Lib.VecWindow

@[expose] public section

set_option maxRecDepth 16384

noncomputable section

namespace Cert.KernelIdeal.Hand

open Cert.KernelIdeal Cert.KernelIdeal.Gen
open Idealize.ShloMosaic Idealize.ShloMosaic.TcCoe

/-- One entry of the first mixing weights lies inside them. -/
theorem entry_inb (c : Fin 8) (k : Fin 3) : ∀ a, (![c.val, k.val] : Fin 2 → ℕ) a + S1x1.size a ≤ S8x3.size a := by
  revert c k; decide

/-- One entry of the first mixing offsets lies inside them. -/
theorem cell_inb (c : Fin 8) : ∀ a, (![c.val] : Fin 1 → ℕ) a + S1.size a ≤ S8.size a := by
  revert c; decide

/-- One row of the second mixing weights lies inside them. -/
theorem row_inb (c : Fin 8) : ∀ a, (![c.val, 0] : Fin 2 → ℕ) a + S1x64.size a ≤ S8x64.size a := by
  revert c; decide

variable {F : FTy → Type} [FloatOps F] [Named F]

/-- The rows a grid point writes, from the arrays the body is handed and the hidden features. -/
def rowsOf (i : grid0.Coords) (x0 : Vec F S2048x3 .f32) (x1 : Vec F S3x2048 .f32) (x2 : Vec F S2048x3 .f32) (x3 : Vec F S3x2048 .f32)
    (x4 : Vec F S2048x9 .f32) (x12 : Vec F S8x3 .f32) (x13 : Vec F S8 .f32) (x14 : Vec F S8x64 .f32) (x15 : Vec F S1x64 .f32)
    (x16 : Vec F S64x128 .f32) (x17 : Vec F S1x128 .f32) (x18 : Vec F S128x128 .f32) (x19 : Vec F S1x128 .f32) (f : Vec F S2048x64 .f32) :
    FVec F S1024x128 .f32 :=
  midOut (VecWindow.window (s := S2048x3) x0 (k0_off1 i) S1024x3.size (k0_off1_inb i)) x1
    (VecWindow.window (s := S2048x3) x2 (k0_off1 i) S1024x3.size (k0_off1_inb i)) x3
    (VecWindow.window (s := S2048x9) x4 (k0_off2 i) S1024x9.size (k0_off2_inb i)) f x15
    (fun c k => x12 (ix2 c k)) (fun c => x13 (ix1 c)) (fun c => VecWindow.window (s := S8x64) x14 ![c.val, 0] S1x64.size (row_inb c))
    x16 x17 x18 x19

/-- One entry of the first mixing weights as the body loads it. -/
theorem load_entry (m : Memref sig .tc .smem S8x3 .f32) (h : m.IsWhole) (x : Vec F S8x3 .f32) (c : Fin 8) (k : Fin 3) :
    View.readAt (Elt F) m.view (Rect.unit (s := S8x3) ![c.val, k.val] S1x1.size (entry_inb c k)).toLoadRect (h.unread x)
      (Shape.Idx.first (s := S1x1) (by decide)) = x (ix2 c k) := by
  rw [load_window m h x (entry_inb c k)]
  refine congrArg x (funext fun a => Fin.ext ?_)
  fin_cases a <;> rfl

/-- One entry of the first mixing offsets as the body loads it. -/
theorem load_cell (m : Memref sig .tc .smem S8 .f32) (h : m.IsWhole) (x : Vec F S8 .f32) (c : Fin 8) :
    View.readAt (Elt F) m.view (Rect.unit (s := S8) ![c.val] S1.size (cell_inb c)).toLoadRect (h.unread x)
      (Shape.Idx.first (s := S1) (by decide)) = x (ix1 c) := by
  rw [load_window m h x (cell_inb c)]
  refine congrArg x (funext fun a => Fin.ext ?_)
  fin_cases a; rfl

set_option maxHeartbeats 2000000 in
/-- The rows the first point stores. -/
theorem runFirst_rows (c : Dev nD) (i : grid0.Coords) (arg1 : Memref sig .tc .vmem S2048x3 .f32) (harg1 : arg1.IsWhole) (arg2 : Memref sig .tc .vmem S3x2048 .f32) (harg2 : arg2.IsWhole) (arg3 : Memref sig .tc .vmem S2048x3 .f32) (harg3 : arg3.IsWhole) (arg4 : Memref sig .tc .vmem S3x2048 .f32) (harg4 : arg4.IsWhole) (arg5 : Memref sig .tc .vmem S2048x9 .f32) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .smem S8x3 .f32) (harg13 : arg13.IsWhole) (arg14 : Memref sig .tc .smem S8 .f32) (harg14 : arg14.IsWhole) (arg15 : Memref sig .tc .vmem S8x64 .f32) (harg15 : arg15.IsWhole) (arg16 : Memref sig .tc .vmem S1x64 .f32) (harg16 : arg16.IsWhole) (arg17 : Memref sig .tc .vmem S64x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S2048x128 .f32) (harg23 : arg23.IsWhole) (arg24 : Memref sig .tc .vmem S2048x64 .f32) (harg24 : arg24.IsWhole) (arg25 : Memref sig .tc .vmem S2048x128 .f32) (harg25 : arg25.IsWhole) (hc0 : first i) (hc1 : ¬last i)
    (x0 : Vec F S2048x3 .f32) (x1 : Vec F S3x2048 .f32) (x2 : Vec F S2048x3 .f32) (x3 : Vec F S3x2048 .f32) (x4 : Vec F S2048x9 .f32) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) (x12 : Vec F S8x3 .f32) (x13 : Vec F S8 .f32) (x14 : Vec F S8x64 .f32) (x15 : Vec F S1x64 .f32) (x16 : Vec F S64x128 .f32) (x17 : Vec F S1x128 .f32) (x18 : Vec F S128x128 .f32) (x19 : Vec F S1x128 .f32) (x20 : Vec F S1x128 .f32) (x21 : Vec F S1x128 .f32) (xo : Vec F S2048x128 .f32) :
    (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xo).1.2
      = [⟨Rect.unit (s := S2048x128) (k0_off3 i) S1024x128.size (k0_off3_inb i), rowsOf i x0 x1 x2 x3 x4 x12 x13 x14 x15 x16 x17 x18 x19 (firstOut x5 x6 x7 x8 x9 x10 x11)⟩] := by
  have h : (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xo).1.2
      = [⟨Rect.unit (s := S2048x128) (k0_off3 i) S1024x128.size (k0_off3_inb i),
          midOut (View.readAt (Elt F) arg1.view (Rect.unit (s := S2048x3) (k0_off1 i) S1024x3.size (k0_off1_inb i)).toLoadRect (harg1.unread x0)) (View.readAt (Elt F) arg2.view (Rect.unit ![0, 0] S3x2048.size inb_S3x2048_S3x2048_0_0).toLoadRect (harg2.unread x1)) (View.readAt (Elt F) arg3.view (Rect.unit (s := S2048x3) (k0_off1 i) S1024x3.size (k0_off1_inb i)).toLoadRect (harg3.unread x2)) (View.readAt (Elt F) arg4.view (Rect.unit ![0, 0] S3x2048.size inb_S3x2048_S3x2048_0_0).toLoadRect (harg4.unread x3)) (View.readAt (Elt F) arg5.view (Rect.unit (s := S2048x9) (k0_off2 i) S1024x9.size (k0_off2_inb i)).toLoadRect (harg5.unread x4)) (arg24.view.readCov (runFirst c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xo).1.1 (Rect.unit ![0, 0] S2048x64.size inb_S2048x64_S2048x64_0_0).toLoadRect) (View.readAt (Elt F) arg16.view (Rect.unit ![0, 0] S1x64.size inb_S1x64_S1x64_0_0).toLoadRect (harg16.unread x15)) (fun (c : Fin 8) (k : Fin 3) => View.readAt (Elt F) arg13.view (Rect.unit (s := S8x3) ![c.val, k.val] S1x1.size (entry_inb c k)).toLoadRect (harg13.unread x12) (Shape.Idx.first (s := S1x1) (by decide))) (fun (c : Fin 8) => View.readAt (Elt F) arg14.view (Rect.unit (s := S8) ![c.val] S1.size (cell_inb c)).toLoadRect (harg14.unread x13) (Shape.Idx.first (s := S1) (by decide))) (fun (c : Fin 8) => View.readAt (Elt F) arg15.view (Rect.unit (s := S8x64) ![c.val, 0] S1x64.size (row_inb c)).toLoadRect (harg15.unread x14)) (View.readAt (Elt F) arg17.view (Rect.unit ![0, 0] S64x128.size inb_S64x128_S64x128_0_0).toLoadRect (harg17.unread x16)) (View.readAt (Elt F) arg18.view (Rect.unit ![0, 0] S1x128.size inb_S1x128_S1x128_0_0).toLoadRect (harg18.unread x17)) (View.readAt (Elt F) arg19.view (Rect.unit ![0, 0] S128x128.size inb_S128x128_S128x128_0_0).toLoadRect (harg19.unread x18)) (View.readAt (Elt F) arg20.view (Rect.unit ![0, 0] S1x128.size inb_S1x128_S1x128_0_0).toLoadRect (harg20.unread x19))⟩] := rfl
  have e2 : (View.readAt (Elt F) arg2.view (Rect.unit ![0, 0] S3x2048.size inb_S3x2048_S3x2048_0_0).toLoadRect (harg2.unread x1)) = x1 := load_full arg2 harg2 x1 _
  have e4 : (View.readAt (Elt F) arg4.view (Rect.unit ![0, 0] S3x2048.size inb_S3x2048_S3x2048_0_0).toLoadRect (harg4.unread x3)) = x3 := load_full arg4 harg4 x3 _
  have e16 : (View.readAt (Elt F) arg16.view (Rect.unit ![0, 0] S1x64.size inb_S1x64_S1x64_0_0).toLoadRect (harg16.unread x15)) = x15 := load_full arg16 harg16 x15 _
  have e17 : (View.readAt (Elt F) arg17.view (Rect.unit ![0, 0] S64x128.size inb_S64x128_S64x128_0_0).toLoadRect (harg17.unread x16)) = x16 := load_full arg17 harg17 x16 _
  have e18 : (View.readAt (Elt F) arg18.view (Rect.unit ![0, 0] S1x128.size inb_S1x128_S1x128_0_0).toLoadRect (harg18.unread x17)) = x17 := load_full arg18 harg18 x17 _
  have e19 : (View.readAt (Elt F) arg19.view (Rect.unit ![0, 0] S128x128.size inb_S128x128_S128x128_0_0).toLoadRect (harg19.unread x18)) = x18 := load_full arg19 harg19 x18 _
  have e20 : (View.readAt (Elt F) arg20.view (Rect.unit ![0, 0] S1x128.size inb_S1x128_S1x128_0_0).toLoadRect (harg20.unread x19)) = x19 := load_full arg20 harg20 x19 _
  have e1 : (View.readAt (Elt F) arg1.view (Rect.unit (s := S2048x3) (k0_off1 i) S1024x3.size (k0_off1_inb i)).toLoadRect (harg1.unread x0)) = VecWindow.window (s := S2048x3) x0 (k0_off1 i) S1024x3.size (k0_off1_inb i) := load_window arg1 harg1 x0 _
  have e3 : (View.readAt (Elt F) arg3.view (Rect.unit (s := S2048x3) (k0_off1 i) S1024x3.size (k0_off1_inb i)).toLoadRect (harg3.unread x2)) = VecWindow.window (s := S2048x3) x2 (k0_off1 i) S1024x3.size (k0_off1_inb i) := load_window arg3 harg3 x2 _
  have e5 : (View.readAt (Elt F) arg5.view (Rect.unit (s := S2048x9) (k0_off2 i) S1024x9.size (k0_off2_inb i)).toLoadRect (harg5.unread x4)) = VecWindow.window (s := S2048x9) x4 (k0_off2 i) S1024x9.size (k0_off2_inb i) := load_window arg5 harg5 x4 _
  have e13 : (fun (c : Fin 8) (k : Fin 3) => View.readAt (Elt F) arg13.view (Rect.unit (s := S8x3) ![c.val, k.val] S1x1.size (entry_inb c k)).toLoadRect (harg13.unread x12) (Shape.Idx.first (s := S1x1) (by decide))) = fun c k => x12 (ix2 c k) := funext fun c => funext fun k => load_entry arg13 harg13 x12 c k
  have e14 : (fun (c : Fin 8) => View.readAt (Elt F) arg14.view (Rect.unit (s := S8) ![c.val] S1.size (cell_inb c)).toLoadRect (harg14.unread x13) (Shape.Idx.first (s := S1) (by decide))) = fun c => x13 (ix1 c) := funext fun c => load_cell arg14 harg14 x13 c
  have e15 : (fun (c : Fin 8) => View.readAt (Elt F) arg15.view (Rect.unit (s := S8x64) ![c.val, 0] S1x64.size (row_inb c)).toLoadRect (harg15.unread x14)) = fun c => VecWindow.window (s := S8x64) x14 ![c.val, 0] S1x64.size (row_inb c) := funext fun c => load_window arg15 harg15 x14 _
  rw [h, runFirst_feat, View.readCov_full, e1, e2, e3, e4, e5, e13, e14, e15, e16, e17, e18, e19, e20]
  rfl

set_option maxHeartbeats 2000000 in
/-- The result the last point stores: the rows as they then lie in the scratch, normalised. -/
theorem runLast_out (c : Dev nD) (i : grid0.Coords) (arg1 : Memref sig .tc .vmem S2048x3 .f32) (harg1 : arg1.IsWhole) (arg2 : Memref sig .tc .vmem S3x2048 .f32) (harg2 : arg2.IsWhole) (arg3 : Memref sig .tc .vmem S2048x3 .f32) (harg3 : arg3.IsWhole) (arg4 : Memref sig .tc .vmem S3x2048 .f32) (harg4 : arg4.IsWhole) (arg5 : Memref sig .tc .vmem S2048x9 .f32) (harg5 : arg5.IsWhole) (arg6 : Memref sig .tc .vmem S2048x128 .f32) (harg6 : arg6.IsWhole) (arg7 : Memref sig .tc .vmem S128x64 .f32) (harg7 : arg7.IsWhole) (arg8 : Memref sig .tc .vmem S1x64 .f32) (harg8 : arg8.IsWhole) (arg9 : Memref sig .tc .vmem S64x64 .f32) (harg9 : arg9.IsWhole) (arg10 : Memref sig .tc .vmem S1x64 .f32) (harg10 : arg10.IsWhole) (arg11 : Memref sig .tc .vmem S1x64 .f32) (harg11 : arg11.IsWhole) (arg12 : Memref sig .tc .vmem S1x64 .f32) (harg12 : arg12.IsWhole) (arg13 : Memref sig .tc .smem S8x3 .f32) (harg13 : arg13.IsWhole) (arg14 : Memref sig .tc .smem S8 .f32) (harg14 : arg14.IsWhole) (arg15 : Memref sig .tc .vmem S8x64 .f32) (harg15 : arg15.IsWhole) (arg16 : Memref sig .tc .vmem S1x64 .f32) (harg16 : arg16.IsWhole) (arg17 : Memref sig .tc .vmem S64x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S1x128 .f32) (harg20 : arg20.IsWhole) (arg21 : Memref sig .tc .vmem S1x128 .f32) (harg21 : arg21.IsWhole) (arg22 : Memref sig .tc .vmem S1x128 .f32) (harg22 : arg22.IsWhole) (arg23 : Memref sig .tc .vmem S2048x128 .f32) (harg23 : arg23.IsWhole) (arg24 : Memref sig .tc .vmem S2048x64 .f32) (harg24 : arg24.IsWhole) (arg25 : Memref sig .tc .vmem S2048x128 .f32) (harg25 : arg25.IsWhole) (hc0 : ¬first i) (hc1 : last i)
    (x0 : Vec F S2048x3 .f32) (x1 : Vec F S3x2048 .f32) (x2 : Vec F S2048x3 .f32) (x3 : Vec F S3x2048 .f32) (x4 : Vec F S2048x9 .f32) (x5 : Vec F S2048x128 .f32) (x6 : Vec F S128x64 .f32) (x7 : Vec F S1x64 .f32) (x8 : Vec F S64x64 .f32) (x9 : Vec F S1x64 .f32) (x10 : Vec F S1x64 .f32) (x11 : Vec F S1x64 .f32) (x12 : Vec F S8x3 .f32) (x13 : Vec F S8 .f32) (x14 : Vec F S8x64 .f32) (x15 : Vec F S1x64 .f32) (x16 : Vec F S64x128 .f32) (x17 : Vec F S1x128 .f32) (x18 : Vec F S128x128 .f32) (x19 : Vec F S1x128 .f32) (x20 : Vec F S1x128 .f32) (x21 : Vec F S1x128 .f32) (xf : Vec F S2048x64 .f32) (xr : Vec F S2048x128 .f32) :
    (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xf xr).1
      = [⟨Rect.unit (s := S2048x128) ![0, 0] S2048x128.size inb_S2048x128_S2048x128_0_0,
          lastOut (VecWindow.put xr (k0_off3 i) S1024x128.size (rowsOf i x0 x1 x2 x3 x4 x12 x13 x14 x15 x16 x17 x18 x19 xf)) x20 x21⟩] := by
  have h : (runLast c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 hc0 hc1 x0 x1 x2 x3 x4 x5 x6 x7 x8 x9 x10 x11 x12 x13 x14 x15 x16 x17 x18 x19 x20 x21 xf xr).1
      = [⟨Rect.unit (s := S2048x128) ![0, 0] S2048x128.size inb_S2048x128_S2048x128_0_0,
          lastOut (View.readAt (Elt F) arg25.view (Rect.unit ![0, 0] S2048x128.size inb_S2048x128_S2048x128_0_0).toLoadRect
            (arg25.view.writes (Elt F) (harg25.unread xr) [⟨Rect.unit (s := S2048x128) (k0_off3 i) S1024x128.size (k0_off3_inb i),
              midOut (View.readAt (Elt F) arg1.view (Rect.unit (s := S2048x3) (k0_off1 i) S1024x3.size (k0_off1_inb i)).toLoadRect (harg1.unread x0)) (View.readAt (Elt F) arg2.view (Rect.unit ![0, 0] S3x2048.size inb_S3x2048_S3x2048_0_0).toLoadRect (harg2.unread x1)) (View.readAt (Elt F) arg3.view (Rect.unit (s := S2048x3) (k0_off1 i) S1024x3.size (k0_off1_inb i)).toLoadRect (harg3.unread x2)) (View.readAt (Elt F) arg4.view (Rect.unit ![0, 0] S3x2048.size inb_S3x2048_S3x2048_0_0).toLoadRect (harg4.unread x3)) (View.readAt (Elt F) arg5.view (Rect.unit (s := S2048x9) (k0_off2 i) S1024x9.size (k0_off2_inb i)).toLoadRect (harg5.unread x4)) (View.readAt (Elt F) arg24.view (Rect.unit ![0, 0] S2048x64.size inb_S2048x64_S2048x64_0_0).toLoadRect (harg24.unread xf)) (View.readAt (Elt F) arg16.view (Rect.unit ![0, 0] S1x64.size inb_S1x64_S1x64_0_0).toLoadRect (harg16.unread x15)) (fun (c : Fin 8) (k : Fin 3) => View.readAt (Elt F) arg13.view (Rect.unit (s := S8x3) ![c.val, k.val] S1x1.size (entry_inb c k)).toLoadRect (harg13.unread x12) (Shape.Idx.first (s := S1x1) (by decide))) (fun (c : Fin 8) => View.readAt (Elt F) arg14.view (Rect.unit (s := S8) ![c.val] S1.size (cell_inb c)).toLoadRect (harg14.unread x13) (Shape.Idx.first (s := S1) (by decide))) (fun (c : Fin 8) => View.readAt (Elt F) arg15.view (Rect.unit (s := S8x64) ![c.val, 0] S1x64.size (row_inb c)).toLoadRect (harg15.unread x14)) (View.readAt (Elt F) arg17.view (Rect.unit ![0, 0] S64x128.size inb_S64x128_S64x128_0_0).toLoadRect (harg17.unread x16)) (View.readAt (Elt F) arg18.view (Rect.unit ![0, 0] S1x128.size inb_S1x128_S1x128_0_0).toLoadRect (harg18.unread x17)) (View.readAt (Elt F) arg19.view (Rect.unit ![0, 0] S128x128.size inb_S128x128_S128x128_0_0).toLoadRect (harg19.unread x18)) (View.readAt (Elt F) arg20.view (Rect.unit ![0, 0] S1x128.size inb_S1x128_S1x128_0_0).toLoadRect (harg20.unread x19))⟩])) (View.readAt (Elt F) arg21.view (Rect.unit ![0, 0] S1x128.size inb_S1x128_S1x128_0_0).toLoadRect (harg21.unread x20)) (View.readAt (Elt F) arg22.view (Rect.unit ![0, 0] S1x128.size inb_S1x128_S1x128_0_0).toLoadRect (harg22.unread x21))⟩] := rfl
  have e2 : (View.readAt (Elt F) arg2.view (Rect.unit ![0, 0] S3x2048.size inb_S3x2048_S3x2048_0_0).toLoadRect (harg2.unread x1)) = x1 := load_full arg2 harg2 x1 _
  have e4 : (View.readAt (Elt F) arg4.view (Rect.unit ![0, 0] S3x2048.size inb_S3x2048_S3x2048_0_0).toLoadRect (harg4.unread x3)) = x3 := load_full arg4 harg4 x3 _
  have e16 : (View.readAt (Elt F) arg16.view (Rect.unit ![0, 0] S1x64.size inb_S1x64_S1x64_0_0).toLoadRect (harg16.unread x15)) = x15 := load_full arg16 harg16 x15 _
  have e17 : (View.readAt (Elt F) arg17.view (Rect.unit ![0, 0] S64x128.size inb_S64x128_S64x128_0_0).toLoadRect (harg17.unread x16)) = x16 := load_full arg17 harg17 x16 _
  have e18 : (View.readAt (Elt F) arg18.view (Rect.unit ![0, 0] S1x128.size inb_S1x128_S1x128_0_0).toLoadRect (harg18.unread x17)) = x17 := load_full arg18 harg18 x17 _
  have e19 : (View.readAt (Elt F) arg19.view (Rect.unit ![0, 0] S128x128.size inb_S128x128_S128x128_0_0).toLoadRect (harg19.unread x18)) = x18 := load_full arg19 harg19 x18 _
  have e20 : (View.readAt (Elt F) arg20.view (Rect.unit ![0, 0] S1x128.size inb_S1x128_S1x128_0_0).toLoadRect (harg20.unread x19)) = x19 := load_full arg20 harg20 x19 _
  have e24 : (View.readAt (Elt F) arg24.view (Rect.unit ![0, 0] S2048x64.size inb_S2048x64_S2048x64_0_0).toLoadRect (harg24.unread xf)) = xf := load_full arg24 harg24 xf _
  have e21 : (View.readAt (Elt F) arg21.view (Rect.unit ![0, 0] S1x128.size inb_S1x128_S1x128_0_0).toLoadRect (harg21.unread x20)) = x20 := load_full arg21 harg21 x20 _
  have e22 : (View.readAt (Elt F) arg22.view (Rect.unit ![0, 0] S1x128.size inb_S1x128_S1x128_0_0).toLoadRect (harg22.unread x21)) = x21 := load_full arg22 harg22 x21 _
  have e1 : (View.readAt (Elt F) arg1.view (Rect.unit (s := S2048x3) (k0_off1 i) S1024x3.size (k0_off1_inb i)).toLoadRect (harg1.unread x0)) = VecWindow.window (s := S2048x3) x0 (k0_off1 i) S1024x3.size (k0_off1_inb i) := load_window arg1 harg1 x0 _
  have e3 : (View.readAt (Elt F) arg3.view (Rect.unit (s := S2048x3) (k0_off1 i) S1024x3.size (k0_off1_inb i)).toLoadRect (harg3.unread x2)) = VecWindow.window (s := S2048x3) x2 (k0_off1 i) S1024x3.size (k0_off1_inb i) := load_window arg3 harg3 x2 _
  have e5 : (View.readAt (Elt F) arg5.view (Rect.unit (s := S2048x9) (k0_off2 i) S1024x9.size (k0_off2_inb i)).toLoadRect (harg5.unread x4)) = VecWindow.window (s := S2048x9) x4 (k0_off2 i) S1024x9.size (k0_off2_inb i) := load_window arg5 harg5 x4 _
  have e13 : (fun (c : Fin 8) (k : Fin 3) => View.readAt (Elt F) arg13.view (Rect.unit (s := S8x3) ![c.val, k.val] S1x1.size (entry_inb c k)).toLoadRect (harg13.unread x12) (Shape.Idx.first (s := S1x1) (by decide))) = fun c k => x12 (ix2 c k) := funext fun c => funext fun k => load_entry arg13 harg13 x12 c k
  have e14 : (fun (c : Fin 8) => View.readAt (Elt F) arg14.view (Rect.unit (s := S8) ![c.val] S1.size (cell_inb c)).toLoadRect (harg14.unread x13) (Shape.Idx.first (s := S1) (by decide))) = fun c => x13 (ix1 c) := funext fun c => load_cell arg14 harg14 x13 c
  have e15 : (fun (c : Fin 8) => View.readAt (Elt F) arg15.view (Rect.unit (s := S8x64) ![c.val, 0] S1x64.size (row_inb c)).toLoadRect (harg15.unread x14)) = fun c => VecWindow.window (s := S8x64) x14 ![c.val, 0] S1x64.size (row_inb c) := funext fun c => load_window arg15 harg15 x14 _
  rw [h, View.readAt_full, View.read_writes_cons_put _ _ _ _ _ rfl, View.writes_nil, e1, e2, e3, e4, e5, e13, e14, e15, e16, e17, e18, e19, e20, e24, e21, e22, harg25.read_unread]
  rfl

end Cert.KernelIdeal.Hand

end
-- ==== Proof.Body.lean ====
/-
  The launch: what the scratch buffers hold between the two grid points, the body's obligation at both, and the run.
-/
module

public import proofs.«01_k».proof.Proof.Pieces

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The first grid point. -/
abbrev pt0 : Fin cfg0.N := ⟨0, lt_of_lt_of_eq (by decide : 0 < 2) N_0.symm⟩
/-- The second grid point. -/
abbrev pt1 : Fin cfg0.N := ⟨1, lt_of_lt_of_eq (by decide : 1 < 2) N_0.symm⟩

/-- The first point's rows start at row zero. -/
theorem off_pt0 : k0_off3 (grid0.coords pt0) = ![0, 0] := by decide
/-- The second point's rows start at row 1024. -/
theorem off_pt1 : k0_off3 (grid0.coords pt1) = ![1024, 0] := by decide

/-- The hidden features, as the first point stores them. -/
def feats (c : Dev nD) : FVec F S2048x64 .f32 :=
  firstOut (iblk m c 5 pt0) (iblk m c 6 pt0) (iblk m c 7 pt0) (iblk m c 8 pt0) (iblk m c 9 pt0) (iblk m c 10 pt0) (iblk m c 11 pt0)

/-- The rows a point stores. -/
def rowsAt (c : Dev nD) (t : Fin cfg0.N) : FVec F S1024x128 .f32 :=
  rowsOf (grid0.coords t) (iblk m c 0 t) (iblk m c 1 t) (iblk m c 2 t) (iblk m c 3 t) (iblk m c 4 t) (iblk m c 12 t) (iblk m c 13 t) (iblk m c 14 t) (iblk m c 15 t) (iblk m c 16 t) (iblk m c 17 t) (iblk m c 18 t) (iblk m c 19 t) (feats m c)

/-- The row scratch with the first point's rows put over some contents. -/
def half (c : Dev nD) (z : Vec F S2048x128 .f32) : Vec F S2048x128 .f32 :=
  VecWindow.put z (k0_off3 (grid0.coords pt0)) S1024x128.size (rowsAt m c pt0)

/-- The row scratch with both points' rows put over some contents. -/
def both (c : Dev nD) (z : Vec F S2048x128 .f32) : Vec F S2048x128 .f32 :=
  VecWindow.put (half m c z) (k0_off3 (grid0.coords pt1)) S1024x128.size (rowsAt m c pt1)

/-- Both points' rows fill the scratch: a row below 1024 is the first point's, the others are the second point's. -/
theorem both_apply (c : Dev nD) (z : Vec F S2048x128 .f32) (p : Fin 2048) (o : Fin 128) :
    both m c z (ix2 p o) = if h : p.val < 1024 then rowsAt m c pt0 (ix2 ⟨p.val, h⟩ o)
      else rowsAt m c pt1 (ix2 ⟨p.val - 1024, by have := p.isLt; omega⟩ o) := by
  unfold both half
  rw [off_pt0, off_pt1]
  unfold VecWindow.put
  by_cases h : p.val < 1024
  · rw [dif_pos h, dif_neg, dif_pos]
    · refine congrArg (rowsAt m c pt0) (funext fun a => Fin.ext ?_)
      fin_cases a
      · rfl
      · rfl
    · intro a
      fin_cases a
      · exact ⟨Nat.zero_le _, by simpa using h⟩
      · exact ⟨Nat.zero_le _, by simp⟩
    · intro hh
      have := (hh 0).1
      simp at this
      omega
  · rw [dif_neg h, dif_pos]
    · refine congrArg (rowsAt m c pt1) (funext fun a => Fin.ext ?_)
      fin_cases a
      · rfl
      · rfl
    · intro a
      fin_cases a
      · refine ⟨by simpa using h, ?_⟩
        have := p.isLt
        simp
      · exact ⟨Nat.zero_le _, by simp⟩

/-- What the scratch held before the first point does not matter. -/
theorem both_indep (c : Dev nD) (z z' : Vec F S2048x128 .f32) : both m c z = both m c z' := by
  funext y
  obtain ⟨p, o, rfl⟩ : ∃ (p : Fin 2048) (o : Fin 128), y = ix2 p o :=
    ⟨y 0, y 1, funext fun a => by fin_cases a <;> rfl⟩
  rw [both_apply, both_apply]

/-- The result: both points' rows, normalised. -/
def result (c : Dev nD) : FVec F S2048x128 .f32 :=
  lastOut (both m c (constant S2048x128 .f32 0x00000000#32)) (iblk m c 20 pt1) (iblk m c 21 pt1)

/-- The invariant before each point: at the start the launch's; between the points the hidden features, the first
    point's rows and the generator register; at the end the launch's. -/
def Mid (c : Dev nD) : ℕ → sProp 𝕄
  | 0 => Pipeline.ΦA spec0 c
  | 1 => iprop(iprop(owns (c : Thread nD τ) featBuf fullShare (feats m c) ∗ (∃ z, owns (c : Thread nD τ) rowBuf fullShare (half m c z))) ∗ (∃ r, prngReg c r))
  | _ + 2 => Pipeline.ΦA spec0 c

/-- The proof data of the launch. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => result m c
    | ⟨_ + 23, h⟩ => absurd h (Nat.not_lt.2 (Nat.le_add_left _ _))
  Φ t := Mid m c t.val
  q _ := fullShare
  owed _ := 0

/-- The proof data's arrays are those the launch finds. -/
theorem dats_A (c : Dev nD) (w : Fin cfg0.W) : (dats m 0 c).A w = V m c (Pipeline.arrRef spec0 w) := by
  dsimp only [dats]

/-- The body leaves operand 0 as it found it. -/
theorem after_0 (c : Dev nD) (t : Fin cfg0.N) : (dats m 0 c).after 0 t = iblk m c 0 t := by dsimp only [dats]
/-- The body finds operand 0 at its block. -/
theorem before_0 (c : Dev nD) (t : Fin cfg0.N) (d) : (dats m 0 c).before 0 t d = iblk m c 0 t :=
  before0_0_of m (dats m 0 c) (dats_A m c 0) (after_0 m c) t d
/-- What is left of operand 0. -/
theorem leaves_0 (c : Dev nD) (t : Fin cfg0.N) :
    (dats m 0 c).leavesExact 0 t = owns (c : Thread nD τ) (buf_0 t) fullShare (iblk m c 0 t) := by
  unfold Dat.leavesExact; rw [live_0 t, after_0]

/-- The body leaves operand 1 as it found it. -/
theorem after_1 (c : Dev nD) (t : Fin cfg0.N) : (dats m 0 c).after 1 t = iblk m c 1 t := by dsimp only [dats]
/-- The body finds operand 1 at its block. -/
theorem before_1 (c : Dev nD) (t : Fin cfg0.N) (d) : (dats m 0 c).before 1 t d = iblk m c 1 t :=
  before0_1_of m (dats m 0 c) (dats_A m c 1) (after_1 m c) t d
/-- What is left of operand 1. -/
theorem leaves_1 (c : Dev nD) (t : Fin cfg0.N) :
    (dats m 0 c).leavesExact 1 t = owns (c : Thread nD τ) (buf_1 t) fullShare (iblk m c 1 t) := by
  unfold Dat.leavesExact; rw [live_1 t, after_1]

/-- The body leaves operand 2 as it found it. -/
theorem after_2 (c : Dev nD) (t : Fin cfg0.N) : (dats m 0 c).after 2 t = iblk m c 2 t := by dsimp only [dats]
/-- The body finds operand 2 at its block. -/
theorem before_2 (c : Dev nD) (t : Fin cfg0.N) (d) : (dats m 0 c).before 2 t d = iblk m c 2 t :=
  before0_2_of m (dats m 0 c) (dats_A m c 2) (after_2 m c) t d
/-- What is left of operand 2. -/
theorem leaves_2 (c : Dev nD) (t : Fin cfg0.N) :
    (dats m 0 c).leavesExact 2 t = owns (c : Thread nD τ) (buf_2 t) fullShare (iblk m c 2 t) := by
  unfold Dat.leavesExact; rw [live_2 t, after_2]

/-- The body leaves operand 3 as it found it. -/
theorem after_3 (c : Dev nD) (t : Fin cfg0.N) : (dats m 0 c).after 3 t = iblk m c 3 t := by dsimp only [dats]
/-- The body finds operand 3 at its block. -/
theorem before_3 (c : Dev nD) (t : Fin cfg0.N) (d) : (dats m 0 c).before 3 t d = iblk m c 3 t :=
  before0_3_of m (dats m 0 c) (dats_A m c 3) (after_3 m c) t d
/-- What is left of operand 3. -/
theorem leaves_3 (c : Dev nD) (t : Fin cfg0.N) :
    (dats m 0 c).leavesExact 3 t = owns (c : Thread nD τ) (buf_3 t) fullShare (iblk m c 3 t) := by
  unfold Dat.leavesExact; rw [live_3 t, after_3]

/-- The body leaves operand 4 as it found it. -/
theorem after_4 (c : Dev nD) (t : Fin cfg0.N) : (dats m 0 c).after 4 t = iblk m c 4 t := by dsimp only [dats]
/-- The body finds operand 4 at its block. -/
theorem before_4 (c : Dev nD) (t : Fin cfg0.N) (d) : (dats m 0 c).before 4 t d = iblk m c 4 t :=
  before0_4_of m (dats m 0 c) (dats_A m c 4) (after_4 m c) t d
/-- What is left of operand 4. -/
theorem leaves_4 (c : Dev nD) (t : Fin cfg0.N) :
    (dats m 0 c).leavesExact 4 t = owns (c : Thread nD τ) (buf_4 t) fullShare (iblk m c 4 t) := by
  unfold Dat.leavesExact; rw [live_4 t, after_4]

/-- The body leaves operand 5 as it found it. -/
theorem after_5 (c : Dev nD) (t : Fin cfg0.N) : (dats m 0 c).after 5 t = iblk m c 5 t := by dsimp only [dats]
/-- The body finds operand 5 at its block. -/
theorem before_5 (c : Dev nD) (t : Fin cfg0.N) (d) : (dats m 0 c).before 5 t d = iblk m c 5 t :=
  before0_5_of m (dats m 0 c) (dats_A m c 5) (after_5 m c) t d
/-- What is left of operand 5. -/
theorem leaves_5 (c : Dev nD) (t : Fin cfg0.N) :
    (dats m 0 c).leavesExact 5 t = owns (c : Thread nD τ) (buf_5 t) fullShare (iblk m c 5 t) := by
  unfold Dat.leavesExact; rw [live_5 t, after_5]

/-- The body leaves operand 6 as it found it. -/
theorem after_6 (c : Dev nD) (t : Fin cfg0.N) : (dats m 0 c).after 6 t = iblk m c 6 t := by dsimp only [dats]
/-- The body finds operand 6 at its block. -/
theorem before_6 (c : Dev nD) (t : Fin cfg0.N) (d) : (dats m 0 c).before 6 t d = iblk m c 6 t :=
  before0_6_of m (dats m 0 c) (dats_A m c 6) (after_6 m c) t d
/-- What is left of operand 6. -/
theorem leaves_6 (c : Dev nD) (t : Fin cfg0.N) :
    (dats m 0 c).leavesExact 6 t = owns (c : Thread nD τ) (buf_6 t) fullShare (iblk m c 6 t) := by
  unfold Dat.leavesExact; rw [live_6 t, after_6]

/-- The body leaves operand 7 as it found it. -/
theorem after_7 (c : Dev nD) (t : Fin cfg0.N) : (dats m 0 c).after 7 t = iblk m c 7 t := by dsimp only [dats]
/-- The body finds operand 7 at its block. -/
theorem before_7 (c : Dev nD) (t : Fin cfg0.N) (d) : (dats m 0 c).before 7 t d = iblk m c 7 t :=
  before0_7_of m (dats m 0 c) (dats_A m c 7) (after_7 m c) t d
/-- What is left of operand 7. -/
theorem leaves_7 (c : Dev nD) (t : Fin cfg0.N) :
    (dats m 0 c).leavesExact 7 t = owns (c : Thread nD τ) (buf_7 t) fullShare (iblk m c 7 t) := by
  unfold Dat.leavesExact; rw [live_7 t, after_7]

/-- The body leaves operand 8 as it found it. -/
theorem after_8 (c : Dev nD) (t : Fin cfg0.N) : (dats m 0 c).after 8 t = iblk m c 8 t := by dsimp only [dats]
/-- The body finds operand 8 at its block. -/
theorem before_8 (c : Dev nD) (t : Fin cfg0.N) (d) : (dats m 0 c).before 8 t d = iblk m c 8 t :=
  before0_8_of m (dats m 0 c) (dats_A m c 8) (after_8 m c) t d
/-- What is left of operand 8. -/
theorem leaves_8 (c : Dev nD) (t : Fin cfg0.N) :
    (dats m 0 c).leavesExact 8 t = owns (c : Thread nD τ) (buf_8 t) fullShare (iblk m c 8 t) := by
  unfold Dat.leavesExact; rw [live_8 t, after_8]

/-- The body leaves operand 9 as it found it. -/
theorem after_9 (c : Dev nD) (t : Fin cfg0.N) : (dats m 0 c).after 9 t = iblk m c 9 t := by dsimp only [dats]
/-- The body finds operand 9 at its block. -/
theorem before_9 (c : Dev nD) (t : Fin cfg0.N) (d) : (dats m 0 c).before 9 t d = iblk m c 9 t :=
  before0_9_of m (dats m 0 c) (dats_A m c 9) (after_9 m c) t d
/-- What is left of operand 9. -/
theorem leaves_9 (c : Dev nD) (t : Fin cfg0.N) :
    (dats m 0 c).leavesExact 9 t = owns (c : Thread nD τ) (buf_9 t) fullShare (iblk m c 9 t) := by
  unfold Dat.leavesExact; rw [live_9 t, after_9]

/-- The body leaves operand 10 as it found it. -/
theorem after_10 (c : Dev nD) (t : Fin cfg0.N) : (dats m 0 c).after 10 t = iblk m c 10 t := by dsimp only [dats]
/-- The body finds operand 10 at its block. -/
theorem before_10 (c : Dev nD) (t : Fin cfg0.N) (d) : (dats m 0 c).before 10 t d = iblk m c 10 t :=
  before0_10_of m (dats m 0 c) (dats_A m c 10) (after_10 m c) t d
/-- What is left of operand 10. -/
theorem leaves_10 (c : Dev nD) (t : Fin cfg0.N) :
    (dats m 0 c).leavesExact 10 t = owns (c : Thread nD τ) (buf_10 t) fullShare (iblk m c 10 t) := by
  unfold Dat.leavesExact; rw [live_10 t, after_10]

/-- The body leaves operand 11 as it found it. -/
theorem after_11 (c : Dev nD) (t : Fin cfg0.N) : (dats m 0 c).after 11 t = iblk m c 11 t := by dsimp only [dats]
/-- The body finds operand 11 at its block. -/
theorem before_11 (c : Dev nD) (t : Fin cfg0.N) (d) : (dats m 0 c).before 11 t d = iblk m c 11 t :=
  before0_11_of m (dats m 0 c) (dats_A m c 11) (after_11 m c) t d
/-- What is left of operand 11. -/
theorem leaves_11 (c : Dev nD) (t : Fin cfg0.N) :
    (dats m 0 c).leavesExact 11 t = owns (c : Thread nD τ) (buf_11 t) fullShare (iblk m c 11 t) := by
  unfold Dat.leavesExact; rw [live_11 t, after_11]

/-- The body leaves operand 12 as it found it. -/
theorem after_12 (c : Dev nD) (t : Fin cfg0.N) : (dats m 0 c).after 12 t = iblk m c 12 t := by dsimp only [dats]
/-- The body finds operand 12 at its block. -/
theorem before_12 (c : Dev nD) (t : Fin cfg0.N) (d) : (dats m 0 c).before 12 t d = iblk m c 12 t :=
  before0_12_of m (dats m 0 c) (dats_A m c 12) (after_12 m c) t d
/-- What is left of operand 12. -/
theorem leaves_12 (c : Dev nD) (t : Fin cfg0.N) :
    (dats m 0 c).leavesExact 12 t = owns (c : Thread nD τ) (buf_12 t) fullShare (iblk m c 12 t) := by
  unfold Dat.leavesExact; rw [live_12 t, after_12]

/-- The body leaves operand 13 as it found it. -/
theorem after_13 (c : Dev nD) (t : Fin cfg0.N) : (dats m 0 c).after 13 t = iblk m c 13 t := by dsimp only [dats]
/-- The body finds operand 13 at its block. -/
theorem before_13 (c : Dev nD) (t : Fin cfg0.N) (d) : (dats m 0 c).before 13 t d = iblk m c 13 t :=
  before0_13_of m (dats m 0 c) (dats_A m c 13) (after_13 m c) t d
/-- What is left of operand 13. -/
theorem leaves_13 (c : Dev nD) (t : Fin cfg0.N) :
    (dats m 0 c).leavesExact 13 t = owns (c : Thread nD τ) (buf_13 t) fullShare (iblk m c 13 t) := by
  unfold Dat.leavesExact; rw [live_13 t, after_13]

/-- The body leaves operand 14 as it found it. -/
theorem after_14 (c : Dev nD) (t : Fin cfg0.N) : (dats m 0 c).after 14 t = iblk m c 14 t := by dsimp only [dats]
/-- The body finds operand 14 at its block. -/
theorem before_14 (c : Dev nD) (t : Fin cfg0.N) (d) : (dats m 0 c).before 14 t d = iblk m c 14 t :=
  before0_14_of m (dats m 0 c) (dats_A m c 14) (after_14 m c) t d
/-- What is left of operand 14. -/
theorem leaves_14 (c : Dev nD) (t : Fin cfg0.N) :
    (dats m 0 c).leavesExact 14 t = owns (c : Thread nD τ) (buf_14 t) fullShare (iblk m c 14 t) := by
  unfold Dat.leavesExact; rw [live_14 t, after_14]

/-- The body leaves operand 15 as it found it. -/
theorem after_15 (c : Dev nD) (t : Fin cfg0.N) : (dats m 0 c).after 15 t = iblk m c 15 t := by dsimp only [dats]
/-- The body finds operand 15 at its block. -/
theorem before_15 (c : Dev nD) (t : Fin cfg0.N) (d) : (dats m 0 c).before 15 t d = iblk m c 15 t :=
  before0_15_of m (dats m 0 c) (dats_A m c 15) (after_15 m c) t d
/-- What is left of operand 15. -/
theorem leaves_15 (c : Dev nD) (t : Fin cfg0.N) :
    (dats m 0 c).leavesExact 15 t = owns (c : Thread nD τ) (buf_15 t) fullShare (iblk m c 15 t) := by
  unfold Dat.leavesExact; rw [live_15 t, after_15]

/-- The body leaves operand 16 as it found it. -/
theorem after_16 (c : Dev nD) (t : Fin cfg0.N) : (dats m 0 c).after 16 t = iblk m c 16 t := by dsimp only [dats]
/-- The body finds operand 16 at its block. -/
theorem before_16 (c : Dev nD) (t : Fin cfg0.N) (d) : (dats m 0 c).before 16 t d = iblk m c 16 t :=
  before0_16_of m (dats m 0 c) (dats_A m c 16) (after_16 m c) t d
/-- What is left of operand 16. -/
theorem leaves_16 (c : Dev nD) (t : Fin cfg0.N) :
    (dats m 0 c).leavesExact 16 t = owns (c : Thread nD τ) (buf_16 t) fullShare (iblk m c 16 t) := by
  unfold Dat.leavesExact; rw [live_16 t, after_16]

/-- The body leaves operand 17 as it found it. -/
theorem after_17 (c : Dev nD) (t : Fin cfg0.N) : (dats m 0 c).after 17 t = iblk m c 17 t := by dsimp only [dats]
/-- The body finds operand 17 at its block. -/
theorem before_17 (c : Dev nD) (t : Fin cfg0.N) (d) : (dats m 0 c).before 17 t d = iblk m c 17 t :=
  before0_17_of m (dats m 0 c) (dats_A m c 17) (after_17 m c) t d
/-- What is left of operand 17. -/
theorem leaves_17 (c : Dev nD) (t : Fin cfg0.N) :
    (dats m 0 c).leavesExact 17 t = owns (c : Thread nD τ) (buf_17 t) fullShare (iblk m c 17 t) := by
  unfold Dat.leavesExact; rw [live_17 t, after_17]

/-- The body leaves operand 18 as it found it. -/
theorem after_18 (c : Dev nD) (t : Fin cfg0.N) : (dats m 0 c).after 18 t = iblk m c 18 t := by dsimp only [dats]
/-- The body finds operand 18 at its block. -/
theorem before_18 (c : Dev nD) (t : Fin cfg0.N) (d) : (dats m 0 c).before 18 t d = iblk m c 18 t :=
  before0_18_of m (dats m 0 c) (dats_A m c 18) (after_18 m c) t d
/-- What is left of operand 18. -/
theorem leaves_18 (c : Dev nD) (t : Fin cfg0.N) :
    (dats m 0 c).leavesExact 18 t = owns (c : Thread nD τ) (buf_18 t) fullShare (iblk m c 18 t) := by
  unfold Dat.leavesExact; rw [live_18 t, after_18]

/-- The body leaves operand 19 as it found it. -/
theorem after_19 (c : Dev nD) (t : Fin cfg0.N) : (dats m 0 c).after 19 t = iblk m c 19 t := by dsimp only [dats]
/-- The body finds operand 19 at its block. -/
theorem before_19 (c : Dev nD) (t : Fin cfg0.N) (d) : (dats m 0 c).before 19 t d = iblk m c 19 t :=
  before0_19_of m (dats m 0 c) (dats_A m c 19) (after_19 m c) t d
/-- What is left of operand 19. -/
theorem leaves_19 (c : Dev nD) (t : Fin cfg0.N) :
    (dats m 0 c).leavesExact 19 t = owns (c : Thread nD τ) (buf_19 t) fullShare (iblk m c 19 t) := by
  unfold Dat.leavesExact; rw [live_19 t, after_19]

/-- The body leaves operand 20 as it found it. -/
theorem after_20 (c : Dev nD) (t : Fin cfg0.N) : (dats m 0 c).after 20 t = iblk m c 20 t := by dsimp only [dats]
/-- The body finds operand 20 at its block. -/
theorem before_20 (c : Dev nD) (t : Fin cfg0.N) (d) : (dats m 0 c).before 20 t d = iblk m c 20 t :=
  before0_20_of m (dats m 0 c) (dats_A m c 20) (after_20 m c) t d
/-- What is left of operand 20. -/
theorem leaves_20 (c : Dev nD) (t : Fin cfg0.N) :
    (dats m 0 c).leavesExact 20 t = owns (c : Thread nD τ) (buf_20 t) fullShare (iblk m c 20 t) := by
  unfold Dat.leavesExact; rw [live_20 t, after_20]

/-- The body leaves operand 21 as it found it. -/
theorem after_21 (c : Dev nD) (t : Fin cfg0.N) : (dats m 0 c).after 21 t = iblk m c 21 t := by dsimp only [dats]
/-- The body finds operand 21 at its block. -/
theorem before_21 (c : Dev nD) (t : Fin cfg0.N) (d) : (dats m 0 c).before 21 t d = iblk m c 21 t :=
  before0_21_of m (dats m 0 c) (dats_A m c 21) (after_21 m c) t d
/-- What is left of operand 21. -/
theorem leaves_21 (c : Dev nD) (t : Fin cfg0.N) :
    (dats m 0 c).leavesExact 21 t = owns (c : Thread nD τ) (buf_21 t) fullShare (iblk m c 21 t) := by
  unfold Dat.leavesExact; rw [live_21 t, after_21]

/-- What the last point leaves of the result. -/
theorem after_22 (c : Dev nD) (t : Fin cfg0.N) : (dats m 0 c).after 22 t = result m c := by dsimp only [dats]

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (buf_0 t) fullShare ((dats m 0 c).before 0 t d))
    ∗ (∃ d, owns (c : Thread nD τ) (buf_1 t) fullShare ((dats m 0 c).before 1 t d))
    ∗ (∃ d, owns (c : Thread nD τ) (buf_2 t) fullShare ((dats m 0 c).before 2 t d))
    ∗ (∃ d, owns (c : Thread nD τ) (buf_3 t) fullShare ((dats m 0 c).before 3 t d))
    ∗ (∃ d, owns (c : Thread nD τ) (buf_4 t) fullShare ((dats m 0 c).before 4 t d))
    ∗ (∃ d, owns (c : Thread nD τ) (buf_5 t) fullShare ((dats m 0 c).before 5 t d))
    ∗ (∃ d, owns (c : Thread nD τ) (buf_6 t) fullShare ((dats m 0 c).before 6 t d))
    ∗ (∃ d, owns (c : Thread nD τ) (buf_7 t) fullShare ((dats m 0 c).before 7 t d))
    ∗ (∃ d, owns (c : Thread nD τ) (buf_8 t) fullShare ((dats m 0 c).before 8 t d))
    ∗ (∃ d, owns (c : Thread nD τ) (buf_9 t) fullShare ((dats m 0 c).before 9 t d))
    ∗ (∃ d, owns (c : Thread nD τ) (buf_10 t) fullShare ((dats m 0 c).before 10 t d))
    ∗ (∃ d, owns (c : Thread nD τ) (buf_11 t) fullShare ((dats m 0 c).before 11 t d))
    ∗ (∃ d, owns (c : Thread nD τ) (buf_12 t) fullShare ((dats m 0 c).before 12 t d))
    ∗ (∃ d, owns (c : Thread nD τ) (buf_13 t) fullShare ((dats m 0 c).before 13 t d))
    ∗ (∃ d, owns (c : Thread nD τ) (buf_14 t) fullShare ((dats m 0 c).before 14 t d))
    ∗ (∃ d, owns (c : Thread nD τ) (buf_15 t) fullShare ((dats m 0 c).before 15 t d))
    ∗ (∃ d, owns (c : Thread nD τ) (buf_16 t) fullShare ((dats m 0 c).before 16 t d))
    ∗ (∃ d, owns (c : Thread nD τ) (buf_17 t) fullShare ((dats m 0 c).before 17 t d))
    ∗ (∃ d, owns (c : Thread nD τ) (buf_18 t) fullShare ((dats m 0 c).before 18 t d))
    ∗ (∃ d, owns (c : Thread nD τ) (buf_19 t) fullShare ((dats m 0 c).before 19 t d))
    ∗ (∃ d, owns (c : Thread nD τ) (buf_20 t) fullShare ((dats m 0 c).before 20 t d))
    ∗ (∃ d, owns (c : Thread nD τ) (buf_21 t) fullShare ((dats m 0 c).before 21 t d))
    ∗ (∃ d, owns (c : Thread nD τ) (buf_22 t) fullShare ((dats m 0 c).before 22 t d)))

/-- What the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t)

set_option maxHeartbeats 8000000 in
/-- The body at the first point. -/
theorem body_pt0 (c : Dev nD) :
    bodyPre m c pt0 ⊢ wp frame (wpE (defs₀ (F := F)) Variants.none c none) Set.univ (bodyAt0 pt0) (fun _ => bodyPost m c pt0) := by
  unfold bodyPre bodyPost bodyAt0
  simp only [before_0, before_1, before_2, before_3, before_4, before_5, before_6, before_7, before_8, before_9, before_10, before_11, before_12, before_13, before_14, before_15, before_16, before_17, before_18, before_19, before_20, before_21]
  rw [show (dats m 0 c).owesAt () (pt0 : Fin cfg0.N).succ = (dats m 0 c).owesAt () (pt0 : Fin cfg0.N).castSucc from rfl]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21]
  rw [show (dats m 0 c).Φ (pt0 : Fin cfg0.N).castSucc = Pipeline.ΦA spec0 c from rfl, start_eq]
  rw [show (dats m 0 c).Φ (pt0 : Fin cfg0.N).succ = iprop(iprop(owns (c : Thread nD τ) featBuf fullShare (feats m c) ∗ (∃ z, owns (c : Thread nD τ) rowBuf fullShare (half m c z))) ∗ (∃ r, prngReg c r)) from rfl]
  rw [Dat.leavesExact_idle _ 22 pt0 (idle_22 pt0 (by decide)) (by decide)]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((runFirst c (grid0.coords pt0) _ _ _ _ _ _ _ _ _ _ _ _ _ _ _ _ _ _ _ _ _ _ _ _ _ _ _ _ _ _ _ _ _ _ _ _ _ _ _ _ _ _ _ _ _ _ _ _ _ _ ((first_iff pt0).mpr (by decide)) (fun h => absurd ((last_iff pt0).mp h) (by decide)) (iblk m c 0 pt0) (iblk m c 1 pt0) (iblk m c 2 pt0) (iblk m c 3 pt0) (iblk m c 4 pt0) (iblk m c 5 pt0) (iblk m c 6 pt0) (iblk m c 7 pt0) (iblk m c 8 pt0) (iblk m c 9 pt0) (iblk m c 10 pt0) (iblk m c 11 pt0) (iblk m c 12 pt0) (iblk m c 13 pt0) (iblk m c 14 pt0) (iblk m c 15 pt0) (iblk m c 16 pt0) (iblk m c 17 pt0) (iblk m c 18 pt0) (iblk m c 19 pt0) (iblk m c 20 pt0) (iblk m c 21 pt0) ((dats m 0 c).before 22 pt0 d22)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [HS0]; · iexact HS0
  isplitl [HS1]; · iexact HS1
  iintro ⟨H0, H1, H2, H3, H4, H5, H6, H7, H8, H9, H10, H11, H12, H13, H14, H15, H16, H17, H18, H19, H20, H21, H22, ⟨%f0, HS0⟩, ⟨%f1, HS1⟩⟩
  isplitl [HS0 HS1 Hg]
  · isplitl [HS0 HS1]
    · isplitl [HS0]
      · unfold owns; iexists _; isplitr
        swap; · iexact HS0
        ipureintro
        rw [runFirst_feat, View.read_writes_full]; rfl
      · iexists _; unfold owns; iexists _; isplitr
        swap; · iexact HS1
        ipureintro
        rw [runFirst_rows, View.read_writes_cons_put _ _ _ _ _ rfl, View.writes_nil]; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  iexists d22; iexact H22

set_option maxHeartbeats 8000000 in
/-- The body at the second point. -/
theorem body_pt1 (c : Dev nD) :
    bodyPre m c pt1 ⊢ wp frame (wpE (defs₀ (F := F)) Variants.none c none) Set.univ (bodyAt0 pt1) (fun _ => bodyPost m c pt1) := by
  unfold bodyPre bodyPost bodyAt0
  simp only [before_0, before_1, before_2, before_3, before_4, before_5, before_6, before_7, before_8, before_9, before_10, before_11, before_12, before_13, before_14, before_15, before_16, before_17, before_18, before_19, before_20, before_21]
  rw [show (dats m 0 c).owesAt () (pt1 : Fin cfg0.N).succ = (dats m 0 c).owesAt () (pt1 : Fin cfg0.N).castSucc from rfl]
  rw [leaves_0, leaves_1, leaves_2, leaves_3, leaves_4, leaves_5, leaves_6, leaves_7, leaves_8, leaves_9, leaves_10, leaves_11, leaves_12, leaves_13, leaves_14, leaves_15, leaves_16, leaves_17, leaves_18, leaves_19, leaves_20, leaves_21]
  rw [show (dats m 0 c).Φ (pt1 : Fin cfg0.N).castSucc = iprop(iprop(owns (c : Thread nD τ) featBuf fullShare (feats m c) ∗ (∃ z, owns (c : Thread nD τ) rowBuf fullShare (half m c z))) ∗ (∃ r, prngReg c r)) from rfl]
  rw [show (dats m 0 c).Φ (pt1 : Fin cfg0.N).succ = Pipeline.ΦA spec0 c from rfl, start_eq]
  rw [show (dats m 0 c).leavesExact 22 pt1 = owns (c : Thread nD τ) (buf_22 pt1) fullShare (result m c) from by
    unfold Dat.leavesExact; rw [live_22 pt1 (by decide), after_22]]
  iintro ⟨⟨⟨HS0, ⟨%z, HS1⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((runLast c (grid0.coords pt1) _ _ _ _ _ _ _ _ _ _ _ _ _ _ _ _ _ _ _ _ _ _ _ _ _ _ _ _ _ _ _ _ _ _ _ _ _ _ _ _ _ _ _ _ _ _ _ _ _ _ (fun h => absurd ((first_iff pt1).mp h) (by decide)) ((last_iff pt1).mpr (by decide)) (iblk m c 0 pt1) (iblk m c 1 pt1) (iblk m c 2 pt1) (iblk m c 3 pt1) (iblk m c 4 pt1) (iblk m c 5 pt1) (iblk m c 6 pt1) (iblk m c 7 pt1) (iblk m c 8 pt1) (iblk m c 9 pt1) (iblk m c 10 pt1) (iblk m c 11 pt1) (iblk m c 12 pt1) (iblk m c 13 pt1) (iblk m c 14 pt1) (iblk m c 15 pt1) (iblk m c 16 pt1) (iblk m c 17 pt1) (iblk m c 18 pt1) (iblk m c 19 pt1) (iblk m c 20 pt1) (iblk m c 21 pt1) (feats m c) (half m c z)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexists _; iexact H22
  isplitl [HS0]; · iexact HS0
  isplitl [HS1]; · iexact HS1
  iintro ⟨H0, H1, H2, H3, H4, H5, H6, H7, H8, H9, H10, H11, H12, H13, H14, H15, H16, H17, H18, H19, H20, H21, ⟨%f22, H22⟩, HS0, ⟨%e1, HS1⟩⟩
  isplitl [HS0 HS1 Hg]
  · isplitl [HS0 HS1]
    · isplitl [HS0]
      · iexists _; iexact HS0
      iexists _; iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  unfold owns; iexists _; isplitr
  swap; · iexact H22
  ipureintro
  rw [runLast_out, View.read_writes_full]
  unfold result
  rw [both_indep m c _ z]
  rfl

/-- The body table's row at a point is the body there. -/
theorem row_eq (t : Fin cfg0.N) :
    defs₀ (F := F) .tc cfg0.body (cfg0.bodyArgs t (cfg0.slots t)) = bodyAt0 t := by
  unfold defs₀; rw [Defs.onTc_tc]

/-- Every point is the first or the second. -/
theorem pt_cases (t : Fin cfg0.N) : t = pt0 ∨ t = pt1 := by
  have h : t.val < 2 := lt_of_lt_of_eq t.isLt N_0
  rcases Nat.lt_or_ge t.val 1 with h0 | h0
  · exact Or.inl (Fin.ext (show t.val = 0 by omega))
  · exact Or.inr (Fin.ext (show t.val = 1 by omega))

/-- The body at every point. -/
theorem body_pt (c : Dev nD) (t : Fin cfg0.N) :
    bodyPre m c t ⊢ wp frame (wpE (defs₀ (F := F)) Variants.none c none) Set.univ (bodyAt0 t) (fun _ => bodyPost m c t) := by
  rcases pt_cases t with h | h
  · rw [h]; exact body_pt0 m c
  · rw [h]; exact body_pt1 m c

/-- The body's obligation at every point. -/
theorem body_obligation (c : Dev nD) : BodyObligation (dats (F := F) m 0 c) (defs₀ (F := F)) Variants.none () Set.univ := fun t => by
  rw [bigSep_W0, bigSep_W0, row_eq]
  exact triple_restated (body_pt m c t) rfl .rfl fun _ => .rfl

/-- The launch's invariant is the one before the first point. -/
theorem hin (c : Dev nD) : Pipeline.ΦA spec0 c ⊢ (dats m 0 c).Φ 0 := by
  rw [show (dats m 0 c).Φ 0 = Pipeline.ΦA spec0 c from rfl]

/-- The invariant after the last point is the launch's. -/
theorem hout (c : Dev nD) : (dats m 0 c).Φ (Fin.last cfg0.N) ⊢ Pipeline.ΦA spec0 c := by
  have h : Mid m c (Fin.last cfg0.N).val = Mid m c 2 := congrArg (Mid m c) N_0
  have e : (dats m 0 c).Φ (Fin.last cfg0.N) = Pipeline.ΦA spec0 c := h
  rw [e]

set_option backward.isDefEq.respectTransparency.types false in
/-- The run: every array ends as the proof data say, every counter at zero. -/
theorem run : θ_run defs (onTc (τ := τ) (main (F := F))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := dats_A m) (hin := hin m) (hout := hout m)

end Cert.KernelIdeal.Hand

end
-- ==== Proof.Host.lean ====
/-
  What the launch finds in the arrays it reads, at an index, in terms of the arguments.
-/
module

public import proofs.«01_k».proof.Proof.Body
public import Idealize.ShloMosaic.Lib.Pointwise
public import Idealize.ShloMosaic.Lib.Pipeline.Value
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.StableHlo

variable {F : FTy → Type} [FloatOps F] [Named F]
variable (m : (ℓ : Loc nD τ sig) → Buf (Elt F) ℓ)

/-- Block 0 is the whole array. -/
theorem blk_0 (c : Dev nD) (t : Fin cfg0.N) : iblk m c 0 t = V m c main_arg0 := by
  funext y
  show V m c main_arg0 ((win0_0.rect t).emb y) = V m c main_arg0 y
  refine congrArg _ (funext fun a => Fin.ext ?_)
  refine Pipeline.Window.rect_emb_val_of_index_zero win0_0 t a ?_ y
  fin_cases a <;> rfl

/-- Block 1 is the whole array. -/
theorem blk_1 (c : Dev nD) (t : Fin cfg0.N) : iblk m c 1 t = V m c main_v2 := by
  funext y
  show V m c main_v2 ((win0_1.rect t).emb y) = V m c main_v2 y
  refine congrArg _ (funext fun a => Fin.ext ?_)
  refine Pipeline.Window.rect_emb_val_of_index_zero win0_1 t a ?_ y
  fin_cases a <;> rfl

/-- Block 2 is the whole array. -/
theorem blk_2 (c : Dev nD) (t : Fin cfg0.N) : iblk m c 2 t = V m c main_v1 := by
  funext y
  show V m c main_v1 ((win0_2.rect t).emb y) = V m c main_v1 y
  refine congrArg _ (funext fun a => Fin.ext ?_)
  refine Pipeline.Window.rect_emb_val_of_index_zero win0_2 t a ?_ y
  fin_cases a <;> rfl

/-- Block 3 is the whole array. -/
theorem blk_3 (c : Dev nD) (t : Fin cfg0.N) : iblk m c 3 t = V m c main_v3 := by
  funext y
  show V m c main_v3 ((win0_3.rect t).emb y) = V m c main_v3 y
  refine congrArg _ (funext fun a => Fin.ext ?_)
  refine Pipeline.Window.rect_emb_val_of_index_zero win0_3 t a ?_ y
  fin_cases a <;> rfl

/-- Block 4 is the whole array. -/
theorem blk_4 (c : Dev nD) (t : Fin cfg0.N) : iblk m c 4 t = V m c main_v4 := by
  funext y
  show V m c main_v4 ((win0_4.rect t).emb y) = V m c main_v4 y
  refine congrArg _ (funext fun a => Fin.ext ?_)
  refine Pipeline.Window.rect_emb_val_of_index_zero win0_4 t a ?_ y
  fin_cases a <;> rfl

/-- Block 5 is the whole array. -/
theorem blk_5 (c : Dev nD) (t : Fin cfg0.N) : iblk m c 5 t = V m c main_arg2 := by
  funext y
  show V m c main_arg2 ((win0_5.rect t).emb y) = V m c main_arg2 y
  refine congrArg _ (funext fun a => Fin.ext ?_)
  refine Pipeline.Window.rect_emb_val_of_index_zero win0_5 t a ?_ y
  fin_cases a <;> rfl

/-- Block 6 is the whole array. -/
theorem blk_6 (c : Dev nD) (t : Fin cfg0.N) : iblk m c 6 t = V m c main_v5 := by
  funext y
  show V m c main_v5 ((win0_6.rect t).emb y) = V m c main_v5 y
  refine congrArg _ (funext fun a => Fin.ext ?_)
  refine Pipeline.Window.rect_emb_val_of_index_zero win0_6 t a ?_ y
  fin_cases a <;> rfl

/-- Block 7 is the whole array. -/
theorem blk_7 (c : Dev nD) (t : Fin cfg0.N) : iblk m c 7 t = V m c main_v6 := by
  funext y
  show V m c main_v6 ((win0_7.rect t).emb y) = V m c main_v6 y
  refine congrArg _ (funext fun a => Fin.ext ?_)
  refine Pipeline.Window.rect_emb_val_of_index_zero win0_7 t a ?_ y
  fin_cases a <;> rfl

/-- Block 8 is the whole array. -/
theorem blk_8 (c : Dev nD) (t : Fin cfg0.N) : iblk m c 8 t = V m c main_v7 := by
  funext y
  show V m c main_v7 ((win0_8.rect t).emb y) = V m c main_v7 y
  refine congrArg _ (funext fun a => Fin.ext ?_)
  refine Pipeline.Window.rect_emb_val_of_index_zero win0_8 t a ?_ y
  fin_cases a <;> rfl

/-- Block 9 is the whole array. -/
theorem blk_9 (c : Dev nD) (t : Fin cfg0.N) : iblk m c 9 t = V m c main_v8 := by
  funext y
  show V m c main_v8 ((win0_9.rect t).emb y) = V m c main_v8 y
  refine congrArg _ (funext fun a => Fin.ext ?_)
  refine Pipeline.Window.rect_emb_val_of_index_zero win0_9 t a ?_ y
  fin_cases a <;> rfl

/-- Block 10 is the whole array. -/
theorem blk_10 (c : Dev nD) (t : Fin cfg0.N) : iblk m c 10 t = V m c main_v9 := by
  funext y
  show V m c main_v9 ((win0_10.rect t).emb y) = V m c main_v9 y
  refine congrArg _ (funext fun a => Fin.ext ?_)
  refine Pipeline.Window.rect_emb_val_of_index_zero win0_10 t a ?_ y
  fin_cases a <;> rfl

/-- Block 11 is the whole array. -/
theorem blk_11 (c : Dev nD) (t : Fin cfg0.N) : iblk m c 11 t = V m c main_v10 := by
  funext y
  show V m c main_v10 ((win0_11.rect t).emb y) = V m c main_v10 y
  refine congrArg _ (funext fun a => Fin.ext ?_)
  refine Pipeline.Window.rect_emb_val_of_index_zero win0_11 t a ?_ y
  fin_cases a <;> rfl

/-- Block 12 is the whole array. -/
theorem blk_12 (c : Dev nD) (t : Fin cfg0.N) : iblk m c 12 t = V m c main_arg9 := by
  funext y
  show V m c main_arg9 ((win0_12.rect t).emb y) = V m c main_arg9 y
  refine congrArg _ (funext fun a => Fin.ext ?_)
  refine Pipeline.Window.rect_emb_val_of_index_zero win0_12 t a ?_ y
  fin_cases a <;> rfl

/-- Block 13 is the whole array. -/
theorem blk_13 (c : Dev nD) (t : Fin cfg0.N) : iblk m c 13 t = V m c main_arg10 := by
  funext y
  show V m c main_arg10 ((win0_13.rect t).emb y) = V m c main_arg10 y
  refine congrArg _ (funext fun a => Fin.ext ?_)
  refine Pipeline.Window.rect_emb_val_of_index_zero win0_13 t a ?_ y
  fin_cases a <;> rfl

/-- Block 14 is the whole array. -/
theorem blk_14 (c : Dev nD) (t : Fin cfg0.N) : iblk m c 14 t = V m c main_v11 := by
  funext y
  show V m c main_v11 ((win0_14.rect t).emb y) = V m c main_v11 y
  refine congrArg _ (funext fun a => Fin.ext ?_)
  refine Pipeline.Window.rect_emb_val_of_index_zero win0_14 t a ?_ y
  fin_cases a <;> rfl

/-- Block 15 is the whole array. -/
theorem blk_15 (c : Dev nD) (t : Fin cfg0.N) : iblk m c 15 t = V m c main_v12 := by
  funext y
  show V m c main_v12 ((win0_15.rect t).emb y) = V m c main_v12 y
  refine congrArg _ (funext fun a => Fin.ext ?_)
  refine Pipeline.Window.rect_emb_val_of_index_zero win0_15 t a ?_ y
  fin_cases a <;> rfl

/-- Block 16 is the whole array. -/
theorem blk_16 (c : Dev nD) (t : Fin cfg0.N) : iblk m c 16 t = V m c main_v13 := by
  funext y
  show V m c main_v13 ((win0_16.rect t).emb y) = V m c main_v13 y
  refine congrArg _ (funext fun a => Fin.ext ?_)
  refine Pipeline.Window.rect_emb_val_of_index_zero win0_16 t a ?_ y
  fin_cases a <;> rfl

/-- Block 17 is the whole array. -/
theorem blk_17 (c : Dev nD) (t : Fin cfg0.N) : iblk m c 17 t = V m c main_v14 := by
  funext y
  show V m c main_v14 ((win0_17.rect t).emb y) = V m c main_v14 y
  refine congrArg _ (funext fun a => Fin.ext ?_)
  refine Pipeline.Window.rect_emb_val_of_index_zero win0_17 t a ?_ y
  fin_cases a <;> rfl

/-- Block 18 is the whole array. -/
theorem blk_18 (c : Dev nD) (t : Fin cfg0.N) : iblk m c 18 t = V m c main_v15 := by
  funext y
  show V m c main_v15 ((win0_18.rect t).emb y) = V m c main_v15 y
  refine congrArg _ (funext fun a => Fin.ext ?_)
  refine Pipeline.Window.rect_emb_val_of_index_zero win0_18 t a ?_ y
  fin_cases a <;> rfl

/-- Block 19 is the whole array. -/
theorem blk_19 (c : Dev nD) (t : Fin cfg0.N) : iblk m c 19 t = V m c main_v16 := by
  funext y
  show V m c main_v16 ((win0_19.rect t).emb y) = V m c main_v16 y
  refine congrArg _ (funext fun a => Fin.ext ?_)
  refine Pipeline.Window.rect_emb_val_of_index_zero win0_19 t a ?_ y
  fin_cases a <;> rfl

/-- Block 20 is the whole array. -/
theorem blk_20 (c : Dev nD) (t : Fin cfg0.N) : iblk m c 20 t = V m c main_v17 := by
  funext y
  show V m c main_v17 ((win0_20.rect t).emb y) = V m c main_v17 y
  refine congrArg _ (funext fun a => Fin.ext ?_)
  refine Pipeline.Window.rect_emb_val_of_index_zero win0_20 t a ?_ y
  fin_cases a <;> rfl

/-- Block 21 is the whole array. -/
theorem blk_21 (c : Dev nD) (t : Fin cfg0.N) : iblk m c 21 t = V m c main_v18 := by
  funext y
  show V m c main_v18 ((win0_21.rect t).emb y) = V m c main_v18 y
  refine congrArg _ (funext fun a => Fin.ext ?_)
  refine Pipeline.Window.rect_emb_val_of_index_zero win0_21 t a ?_ y
  fin_cases a <;> rfl

/-- The transpose of argument 0. -/
theorem host_v2 (c : Dev nD) (i : Fin 3) (j : Fin 2048) : V m c main_v2 (ix2 i j) = m ((c : Thread nD τ).loc main_arg0) (ix2 j i) := by
  have h : V m c main_v2 = transpose S3x2048 [1, 0] (m ((c : Thread nD τ).loc main_arg0)) transposes_S2048x3_S3x2048_1_0 := by
    unfold_abbrev_sides
    after_results
    try rfl
  rw [h]
  pointwise

/-- The transpose of argument 3. -/
theorem host_v5 (c : Dev nD) (i : Fin 128) (j : Fin 64) : V m c main_v5 (ix2 i j) = m ((c : Thread nD τ).loc main_arg3) (ix2 j i) := by
  have h : V m c main_v5 = transpose S128x64 [1, 0] (m ((c : Thread nD τ).loc main_arg3)) transposes_S64x128_S128x64_1_0 := by
    unfold_abbrev_sides
    after_results
    try rfl
  rw [h]
  pointwise

/-- Argument 4 as a row. -/
theorem host_v6 (c : Dev nD) (j : Fin 64) : V m c main_v6 (ix2 0 j) = m ((c : Thread nD τ).loc main_arg4) (ix1 j) := by
  have h : V m c main_v6 = broadcastInDim S1x64 ![1] bcast_S64_S1x64_1 (m ((c : Thread nD τ).loc main_arg4)) := by
    unfold_abbrev_sides
    after_results
    try rfl
  rw [h]
  pointwise

/-- The transpose of argument 5. -/
theorem host_v7 (c : Dev nD) (i : Fin 64) (j : Fin 64) : V m c main_v7 (ix2 i j) = m ((c : Thread nD τ).loc main_arg5) (ix2 j i) := by
  have h : V m c main_v7 = transpose S64x64 [1, 0] (m ((c : Thread nD τ).loc main_arg5)) transposes_S64x64_S64x64_1_0 := by
    unfold_abbrev_sides
    after_results
    try rfl
  rw [h]
  pointwise

/-- Argument 6 as a row. -/
theorem host_v8 (c : Dev nD) (j : Fin 64) : V m c main_v8 (ix2 0 j) = m ((c : Thread nD τ).loc main_arg6) (ix1 j) := by
  have h : V m c main_v8 = broadcastInDim S1x64 ![1] bcast_S64_S1x64_1 (m ((c : Thread nD τ).loc main_arg6)) := by
    unfold_abbrev_sides
    after_results
    try rfl
  rw [h]
  pointwise

/-- Argument 7 as a row. -/
theorem host_v9 (c : Dev nD) (j : Fin 64) : V m c main_v9 (ix2 0 j) = m ((c : Thread nD τ).loc main_arg7) (ix1 j) := by
  have h : V m c main_v9 = broadcastInDim S1x64 ![1] bcast_S64_S1x64_1 (m ((c : Thread nD τ).loc main_arg7)) := by
    unfold_abbrev_sides
    after_results
    try rfl
  rw [h]
  pointwise

/-- Argument 8 as a row. -/
theorem host_v10 (c : Dev nD) (j : Fin 64) : V m c main_v10 (ix2 0 j) = m ((c : Thread nD τ).loc main_arg8) (ix1 j) := by
  have h : V m c main_v10 = broadcastInDim S1x64 ![1] bcast_S64_S1x64_1 (m ((c : Thread nD τ).loc main_arg8)) := by
    unfold_abbrev_sides
    after_results
    try rfl
  rw [h]
  pointwise

/-- The transpose of argument 11. -/
theorem host_v11 (c : Dev nD) (i : Fin 8) (j : Fin 64) : V m c main_v11 (ix2 i j) = m ((c : Thread nD τ).loc main_arg11) (ix2 j i) := by
  have h : V m c main_v11 = transpose S8x64 [1, 0] (m ((c : Thread nD τ).loc main_arg11)) transposes_S64x8_S8x64_1_0 := by
    unfold_abbrev_sides
    after_results
    try rfl
  rw [h]
  pointwise

/-- Argument 12 as a row. -/
theorem host_v12 (c : Dev nD) (j : Fin 64) : V m c main_v12 (ix2 0 j) = m ((c : Thread nD τ).loc main_arg12) (ix1 j) := by
  have h : V m c main_v12 = broadcastInDim S1x64 ![1] bcast_S64_S1x64_1 (m ((c : Thread nD τ).loc main_arg12)) := by
    unfold_abbrev_sides
    after_results
    try rfl
  rw [h]
  pointwise

/-- The transpose of argument 13. -/
theorem host_v13 (c : Dev nD) (i : Fin 64) (j : Fin 128) : V m c main_v13 (ix2 i j) = m ((c : Thread nD τ).loc main_arg13) (ix2 j i) := by
  have h : V m c main_v13 = transpose S64x128 [1, 0] (m ((c : Thread nD τ).loc main_arg13)) transposes_S128x64_S64x128_1_0 := by
    unfold_abbrev_sides
    after_results
    try rfl
  rw [h]
  pointwise

/-- Argument 14 as a row. -/
theorem host_v14 (c : Dev nD) (j : Fin 128) : V m c main_v14 (ix2 0 j) = m ((c : Thread nD τ).loc main_arg14) (ix1 j) := by
  have h : V m c main_v14 = broadcastInDim S1x128 ![1] bcast_S128_S1x128_1 (m ((c : Thread nD τ).loc main_arg14)) := by
    unfold_abbrev_sides
    after_results
    try rfl
  rw [h]
  pointwise

/-- The transpose of argument 15. -/
theorem host_v15 (c : Dev nD) (i : Fin 128) (j : Fin 128) : V m c main_v15 (ix2 i j) = m ((c : Thread nD τ).loc main_arg15) (ix2 j i) := by
  have h : V m c main_v15 = transpose S128x128 [1, 0] (m ((c : Thread nD τ).loc main_arg15)) transposes_S128x128_S128x128_1_0 := by
    unfold_abbrev_sides
    after_results
    try rfl
  rw [h]
  pointwise

/-- Argument 16 as a row. -/
theorem host_v16 (c : Dev nD) (j : Fin 128) : V m c main_v16 (ix2 0 j) = m ((c : Thread nD τ).loc main_arg16) (ix1 j) := by
  have h : V m c main_v16 = broadcastInDim S1x128 ![1] bcast_S128_S1x128_1 (m ((c : Thread nD τ).loc main_arg16)) := by
    unfold_abbrev_sides
    after_results
    try rfl
  rw [h]
  pointwise

/-- Argument 17 as a row. -/
theorem host_v17 (c : Dev nD) (j : Fin 128) : V m c main_v17 (ix2 0 j) = m ((c : Thread nD τ).loc main_arg17) (ix1 j) := by
  have h : V m c main_v17 = broadcastInDim S1x128 ![1] bcast_S128_S1x128_1 (m ((c : Thread nD τ).loc main_arg17)) := by
    unfold_abbrev_sides
    after_results
    try rfl
  rw [h]
  pointwise

/-- Argument 18 as a row. -/
theorem host_v18 (c : Dev nD) (j : Fin 128) : V m c main_v18 (ix2 0 j) = m ((c : Thread nD τ).loc main_arg18) (ix1 j) := by
  have h : V m c main_v18 = broadcastInDim S1x128 ![1] bcast_S128_S1x128_1 (m ((c : Thread nD τ).loc main_arg18)) := by
    unfold_abbrev_sides
    after_results
    try rfl
  rw [h]
  pointwise

/-- The normals: the first direction of each frame. -/
theorem host_v1 (c : Dev nD) (i : Fin 2048) (x : Fin 3) : V m c main_v1 (ix2 i x) = m ((c : Thread nD τ).loc main_arg1) (ix3 i 0 x) := by
  have h : V m c main_v1 = shapeCast S2048x3 (extractStridedSlice S2048x1x3 ![0, 0, 0] (m ((c : Thread nD τ).loc main_arg1)) slices_S2048x3x3_S2048x1x3_0_0_0) shapeCasts_S2048x1x3_S2048x3 := by
    unfold_abbrev_sides
    after_results
    try rfl
  rw [h]
  pointwise

/-- The transposed normals. -/
theorem host_v3 (c : Dev nD) (x : Fin 3) (i : Fin 2048) : V m c main_v3 (ix2 x i) = m ((c : Thread nD τ).loc main_arg1) (ix3 i 0 x) := by
  have h : V m c main_v3 = transpose S3x2048 [1, 0] (shapeCast S2048x3 (extractStridedSlice S2048x1x3 ![0, 0, 0] (m ((c : Thread nD τ).loc main_arg1)) slices_S2048x3x3_S2048x1x3_0_0_0) shapeCasts_S2048x1x3_S2048x3) transposes_S2048x3_S3x2048_1_0 := by
    unfold_abbrev_sides
    after_results
    try rfl
  rw [h]
  pointwise

/-- An index of two axes is made of its coordinates. -/
theorem idx2 {n k : ℕ} (y : (⟨2, ![n, k]⟩ : Shape).Idx) : ∃ (a : Fin n) (b : Fin k), y = ix2 a b :=
  ⟨y 0, y 1, funext fun a => by fin_cases a <;> rfl⟩

/-- Argument 0. -/
def in0 (c : Dev nD) : Vec F S2048x3 .f32 := fun y => m ((c : Thread nD τ).loc main_arg0) (y)
/-- What the body finds at operand 0. -/
theorem block_0 (c : Dev nD) (t : Fin cfg0.N) : iblk m c 0 t = in0 m c := by
  rw [blk_0]
  funext y
  exact congrFun (V_main_arg0 m c) y

/-- Argument 0 transposed. -/
def in1 (c : Dev nD) : Vec F S3x2048 .f32 := fun y => m ((c : Thread nD τ).loc main_arg0) (ix2 (y 1) (y 0))
/-- What the body finds at operand 1. -/
theorem block_1 (c : Dev nD) (t : Fin cfg0.N) : iblk m c 1 t = in1 m c := by
  rw [blk_1]
  funext y
  obtain ⟨a, b, rfl⟩ := idx2 y
  exact host_v2 m c a b

/-- The normals. -/
def in2 (c : Dev nD) : Vec F S2048x3 .f32 := fun y => m ((c : Thread nD τ).loc main_arg1) (ix3 (y 0) 0 (y 1))
/-- What the body finds at operand 2. -/
theorem block_2 (c : Dev nD) (t : Fin cfg0.N) : iblk m c 2 t = in2 m c := by
  rw [blk_2]
  funext y
  obtain ⟨a, b, rfl⟩ := idx2 y
  exact host_v1 m c a b

/-- The normals transposed. -/
def in3 (c : Dev nD) : Vec F S3x2048 .f32 := fun y => m ((c : Thread nD τ).loc main_arg1) (ix3 (y 1) 0 (y 0))
/-- What the body finds at operand 3. -/
theorem block_3 (c : Dev nD) (t : Fin cfg0.N) : iblk m c 3 t = in3 m c := by
  rw [blk_3]
  funext y
  obtain ⟨a, b, rfl⟩ := idx2 y
  exact host_v3 m c a b

/-- Argument 2. -/
def in5 (c : Dev nD) : Vec F S2048x128 .f32 := fun y => m ((c : Thread nD τ).loc main_arg2) (y)
/-- What the body finds at operand 5. -/
theorem block_5 (c : Dev nD) (t : Fin cfg0.N) : iblk m c 5 t = in5 m c := by
  rw [blk_5]
  funext y
  exact congrFun (V_main_arg2 m c) y

/-- Argument 3 transposed. -/
def in6 (c : Dev nD) : Vec F S128x64 .f32 := fun y => m ((c : Thread nD τ).loc main_arg3) (ix2 (y 1) (y 0))
/-- What the body finds at operand 6. -/
theorem block_6 (c : Dev nD) (t : Fin cfg0.N) : iblk m c 6 t = in6 m c := by
  rw [blk_6]
  funext y
  obtain ⟨a, b, rfl⟩ := idx2 y
  exact host_v5 m c a b

/-- Argument 4 as a row. -/
def in7 (c : Dev nD) : Vec F S1x64 .f32 := fun y => m ((c : Thread nD τ).loc main_arg4) (ix1 (y 1))
/-- What the body finds at operand 7. -/
theorem block_7 (c : Dev nD) (t : Fin cfg0.N) : iblk m c 7 t = in7 m c := by
  rw [blk_7]
  funext y
  obtain ⟨a, b, rfl⟩ := idx2 y
  obtain rfl : a = 0 := Subsingleton.elim _ _
  exact host_v6 m c b

/-- Argument 5 transposed. -/
def in8 (c : Dev nD) : Vec F S64x64 .f32 := fun y => m ((c : Thread nD τ).loc main_arg5) (ix2 (y 1) (y 0))
/-- What the body finds at operand 8. -/
theorem block_8 (c : Dev nD) (t : Fin cfg0.N) : iblk m c 8 t = in8 m c := by
  rw [blk_8]
  funext y
  obtain ⟨a, b, rfl⟩ := idx2 y
  exact host_v7 m c a b

/-- Argument 6 as a row. -/
def in9 (c : Dev nD) : Vec F S1x64 .f32 := fun y => m ((c : Thread nD τ).loc main_arg6) (ix1 (y 1))
/-- What the body finds at operand 9. -/
theorem block_9 (c : Dev nD) (t : Fin cfg0.N) : iblk m c 9 t = in9 m c := by
  rw [blk_9]
  funext y
  obtain ⟨a, b, rfl⟩ := idx2 y
  obtain rfl : a = 0 := Subsingleton.elim _ _
  exact host_v8 m c b

/-- Argument 7 as a row. -/
def in10 (c : Dev nD) : Vec F S1x64 .f32 := fun y => m ((c : Thread nD τ).loc main_arg7) (ix1 (y 1))
/-- What the body finds at operand 10. -/
theorem block_10 (c : Dev nD) (t : Fin cfg0.N) : iblk m c 10 t = in10 m c := by
  rw [blk_10]
  funext y
  obtain ⟨a, b, rfl⟩ := idx2 y
  obtain rfl : a = 0 := Subsingleton.elim _ _
  exact host_v9 m c b

/-- Argument 8 as a row. -/
def in11 (c : Dev nD) : Vec F S1x64 .f32 := fun y => m ((c : Thread nD τ).loc main_arg8) (ix1 (y 1))
/-- What the body finds at operand 11. -/
theorem block_11 (c : Dev nD) (t : Fin cfg0.N) : iblk m c 11 t = in11 m c := by
  rw [blk_11]
  funext y
  obtain ⟨a, b, rfl⟩ := idx2 y
  obtain rfl : a = 0 := Subsingleton.elim _ _
  exact host_v10 m c b

/-- Argument 9. -/
def in12 (c : Dev nD) : Vec F S8x3 .f32 := fun y => m ((c : Thread nD τ).loc main_arg9) (y)
/-- What the body finds at operand 12. -/
theorem block_12 (c : Dev nD) (t : Fin cfg0.N) : iblk m c 12 t = in12 m c := by
  rw [blk_12]
  funext y
  exact congrFun (V_main_arg9 m c) y

/-- Argument 10. -/
def in13 (c : Dev nD) : Vec F S8 .f32 := fun y => m ((c : Thread nD τ).loc main_arg10) (y)
/-- What the body finds at operand 13. -/
theorem block_13 (c : Dev nD) (t : Fin cfg0.N) : iblk m c 13 t = in13 m c := by
  rw [blk_13]
  funext y
  exact congrFun (V_main_arg10 m c) y

/-- Argument 11 transposed. -/
def in14 (c : Dev nD) : Vec F S8x64 .f32 := fun y => m ((c : Thread nD τ).loc main_arg11) (ix2 (y 1) (y 0))
/-- What the body finds at operand 14. -/
theorem block_14 (c : Dev nD) (t : Fin cfg0.N) : iblk m c 14 t = in14 m c := by
  rw [blk_14]
  funext y
  obtain ⟨a, b, rfl⟩ := idx2 y
  exact host_v11 m c a b

/-- Argument 12 as a row. -/
def in15 (c : Dev nD) : Vec F S1x64 .f32 := fun y => m ((c : Thread nD τ).loc main_arg12) (ix1 (y 1))
/-- What the body finds at operand 15. -/
theorem block_15 (c : Dev nD) (t : Fin cfg0.N) : iblk m c 15 t = in15 m c := by
  rw [blk_15]
  funext y
  obtain ⟨a, b, rfl⟩ := idx2 y
  obtain rfl : a = 0 := Subsingleton.elim _ _
  exact host_v12 m c b

/-- Argument 13 transposed. -/
def in16 (c : Dev nD) : Vec F S64x128 .f32 := fun y => m ((c : Thread nD τ).loc main_arg13) (ix2 (y 1) (y 0))
/-- What the body finds at operand 16. -/
theorem block_16 (c : Dev nD) (t : Fin cfg0.N) : iblk m c 16 t = in16 m c := by
  rw [blk_16]
  funext y
  obtain ⟨a, b, rfl⟩ := idx2 y
  exact host_v13 m c a b

/-- Argument 14 as a row. -/
def in17 (c : Dev nD) : Vec F S1x128 .f32 := fun y => m ((c : Thread nD τ).loc main_arg14) (ix1 (y 1))
/-- What the body finds at operand 17. -/
theorem block_17 (c : Dev nD) (t : Fin cfg0.N) : iblk m c 17 t = in17 m c := by
  rw [blk_17]
  funext y
  obtain ⟨a, b, rfl⟩ := idx2 y
  obtain rfl : a = 0 := Subsingleton.elim _ _
  exact host_v14 m c b

/-- Argument 15 transposed. -/
def in18 (c : Dev nD) : Vec F S128x128 .f32 := fun y => m ((c : Thread nD τ).loc main_arg15) (ix2 (y 1) (y 0))
/-- What the body finds at operand 18. -/
theorem block_18 (c : Dev nD) (t : Fin cfg0.N) : iblk m c 18 t = in18 m c := by
  rw [blk_18]
  funext y
  obtain ⟨a, b, rfl⟩ := idx2 y
  exact host_v15 m c a b

/-- Argument 16 as a row. -/
def in19 (c : Dev nD) : Vec F S1x128 .f32 := fun y => m ((c : Thread nD τ).loc main_arg16) (ix1 (y 1))
/-- What the body finds at operand 19. -/
theorem block_19 (c : Dev nD) (t : Fin cfg0.N) : iblk m c 19 t = in19 m c := by
  rw [blk_19]
  funext y
  obtain ⟨a, b, rfl⟩ := idx2 y
  obtain rfl : a = 0 := Subsingleton.elim _ _
  exact host_v16 m c b

/-- Argument 17 as a row. -/
def in20 (c : Dev nD) : Vec F S1x128 .f32 := fun y => m ((c : Thread nD τ).loc main_arg17) (ix1 (y 1))
/-- What the body finds at operand 20. -/
theorem block_20 (c : Dev nD) (t : Fin cfg0.N) : iblk m c 20 t = in20 m c := by
  rw [blk_20]
  funext y
  obtain ⟨a, b, rfl⟩ := idx2 y
  obtain rfl : a = 0 := Subsingleton.elim _ _
  exact host_v17 m c b

/-- Argument 18 as a row. -/
def in21 (c : Dev nD) : Vec F S1x128 .f32 := fun y => m ((c : Thread nD τ).loc main_arg18) (ix1 (y 1))
/-- What the body finds at operand 21. -/
theorem block_21 (c : Dev nD) (t : Fin cfg0.N) : iblk m c 21 t = in21 m c := by
  rw [blk_21]
  funext y
  obtain ⟨a, b, rfl⟩ := idx2 y
  obtain rfl : a = 0 := Subsingleton.elim _ _
  exact host_v18 m c b

/-- The frames laid end to end. -/
def in4 (c : Dev nD) : Vec F S2048x9 .f32 := shapeCast S2048x9 (show FVec F S2048x3x3 .f32 from m ((c : Thread nD τ).loc main_arg1)) shapeCasts_S2048x3x3_S2048x9
/-- What the body finds at operand 4. -/
theorem block_4 (c : Dev nD) (t : Fin cfg0.N) : iblk m c 4 t = in4 m c := by
  rw [blk_4]
  unfold_abbrev_sides
  after_results
  try rfl
/-- The frames laid end to end, at an index. -/
theorem in4_apply (c : Dev nD) (i : Fin 2048) (k x : Fin 3) :
    in4 m c (ix2 i ⟨3 * k.val + x.val, by have := k.isLt; have := x.isLt; omega⟩) = m ((c : Thread nD τ).loc main_arg1) (ix3 i k x) := by
  have hz : ∀ z : FVec F S2048x3x3 .f32, shapeCast S2048x9 z shapeCasts_S2048x3x3_S2048x9
      (ix2 i ⟨3 * k.val + x.val, by have := k.isLt; have := x.isLt; omega⟩) = z (ix3 i k x) := fun z => by
    refine shapeCast_apply _ _ _ _ ?_
    rw [Shape.rowMajor_val_three, Shape.rowMajor_val_two]
    simp
    omega
  exact hz _

end Cert.KernelIdeal.Hand

end
-- ==== Proof.KerValue.lean ====
/-
  The kernel's result at an index is the layer in the kernel's spelling.
-/
module

public import proofs.«01_k».proof.Proof.Host
public import proofs.«01_k».proof.Proof.ReadNorm
public import proofs.«01_k».proof.Proof.ReadMid
public import proofs.«01_k».proof.Proof.Whole
public import Idealize.ShloMosaic.Lib.Pipeline.ValueKit.Basic

@[expose] public section

set_option maxRecDepth 16384

noncomputable section

namespace Cert.KernelIdeal.Hand

open Cert.KernelIdeal Cert.KernelIdeal.Gen Cert.Layer
open Idealize.ShloMosaic Idealize.ShloMosaic.TcCoe
open scoped BigOperators

variable (m : (ℓ : Loc nD τ sig) → Buf (Elt Ideal) ℓ)

/-- The kernel's arguments on a device as functions of coordinates. -/
def args (c : Dev nD) : Args where
  points i a := m ((c : Thread nD τ).loc main_arg0) (ix2 i a)
  frames i k a := m ((c : Thread nD τ).loc main_arg1) (ix3 i k a)
  feats p k := m ((c : Thread nD τ).loc main_arg2) (ix2 p k)
  w1 o k := m ((c : Thread nD τ).loc main_arg3) (ix2 o k)
  b1 o := m ((c : Thread nD τ).loc main_arg4) (ix1 o)
  w2 o k := m ((c : Thread nD τ).loc main_arg5) (ix2 o k)
  b2 o := m ((c : Thread nD τ).loc main_arg6) (ix1 o)
  g1 h := m ((c : Thread nD τ).loc main_arg7) (ix1 h)
  o1 h := m ((c : Thread nD τ).loc main_arg8) (ix1 h)
  a1 d k := m ((c : Thread nD τ).loc main_arg9) (ix2 d k)
  c1 d := m ((c : Thread nD τ).loc main_arg10) (ix1 d)
  a2 h d := m ((c : Thread nD τ).loc main_arg11) (ix2 h d)
  c2 h := m ((c : Thread nD τ).loc main_arg12) (ix1 h)
  w3 o k := m ((c : Thread nD τ).loc main_arg13) (ix2 o k)
  b3 o := m ((c : Thread nD τ).loc main_arg14) (ix1 o)
  w4 o k := m ((c : Thread nD τ).loc main_arg15) (ix2 o k)
  b4 o := m ((c : Thread nD τ).loc main_arg16) (ix1 o)
  g2 h := m ((c : Thread nD τ).loc main_arg17) (ix1 h)
  o2 h := m ((c : Thread nD τ).loc main_arg18) (ix1 h)

/-- The scale is the reciprocal root of two. -/
theorem scale_eq : scale = (((Real.sqrt 2)⁻¹ : ℝ) : EReal) := IdealRules.named_const.ideal_named_scalar _ _ _ _ rfl

/-- The stored features are the hidden features, normalised by one sweep. -/
theorem feats_apply (c : Dev nD) (p : Fin 2048) (h : Fin 64) : feats m c (ix2 p h) = (args m c).featK p h := by
  unfold feats
  rw [block_5, block_6, block_7, block_8, block_9, block_10, block_11, firstOut_apply]
  rfl

/-- A block of rows of an array of three columns, at an index. -/
theorem window3 (x : Vec Ideal S2048x3 .f32) (v : Fin 2 → ℕ) (off : ℕ) (hv : v = ![off, 0]) (inb) (i : Fin 1024) (a : Fin 3)
    (h : off + i.val < 2048) : VecWindow.window (s := S2048x3) x v S1024x3.size inb (ix2 i a) = x (ix2 ⟨off + i.val, h⟩ a) := by
  subst hv
  refine congrArg x (funext fun b => Fin.ext ?_)
  fin_cases b <;> simp [Rect.emb_apply]

/-- A block of rows of an array of nine columns, at an index. -/
theorem window9 (x : Vec Ideal S2048x9 .f32) (v : Fin 2 → ℕ) (off : ℕ) (hv : v = ![off, 0]) (inb) (i : Fin 1024) (a : Fin 9)
    (h : off + i.val < 2048) : VecWindow.window (s := S2048x9) x v S1024x9.size inb (ix2 i a) = x (ix2 ⟨off + i.val, h⟩ a) := by
  subst hv
  refine congrArg x (funext fun b => Fin.ext ?_)
  fin_cases b <;> simp [Rect.emb_apply]

/-- One row of an array of eight rows, at an index. -/
theorem window_row (x : Vec Ideal S8x64 .f32) (d : Fin 8) (inb) (h : Fin 64) :
    VecWindow.window (s := S8x64) x ![d.val, 0] S1x64.size inb (ix2 0 h) = x (ix2 d h) := by
  refine congrArg x (funext fun b => Fin.ext ?_)
  fin_cases b <;> simp [Rect.emb_apply]

/-- The rows a point stores are the output layers over the window sums at its rows. -/
theorem rowsAt_apply (c : Dev nD) (t : Fin cfg0.N) (off : ℕ) (h1 : k0_off1 (grid0.coords t) = ![off, 0])
    (h2 : k0_off2 (grid0.coords t) = ![off, 0]) (i : Fin 1024) (o : Fin 128) (h : off + i.val < 2048) :
    rowsAt m c t (ix2 i o) = (args m c).outer ((args m c).sumK ⟨off + i.val, h⟩) o := by
  unfold rowsAt rowsOf
  rw [block_0, block_1, block_2, block_3, block_4, block_12, block_13, block_14, block_15, block_16, block_17, block_18, block_19, midOut_apply]
  simp only [window3 _ _ off h1 _ _ _ h, window9 _ _ off h2 _ _ _ h, window_row, feats_apply, scale_eq, in4_apply]
  rfl

/-- Both points' rows are the output layers over the window sums. -/
theorem both_value (c : Dev nD) (z : Vec Ideal S2048x128 .f32) (p : Fin 2048) (o : Fin 128) :
    both m c z (ix2 p o) = (args m c).outer ((args m c).sumK p) o := by
  rw [both_apply]
  split_ifs with h
  · rw [rowsAt_apply m c pt0 0 (by decide) (by decide) ⟨p.val, h⟩ o (by simpa using p.isLt)]
    congr 2
    exact Fin.ext (Nat.zero_add _)
  · have hp := p.isLt
    rw [rowsAt_apply m c pt1 1024 (by decide) (by decide) ⟨p.val - 1024, by omega⟩ o (by simp; omega)]
    congr 2
    exact Fin.ext (by simp; omega)

/-- The result at an index. -/
theorem result_apply (c : Dev nD) (p : Fin 2048) (o : Fin 128) : result m c (ix2 p o) = (args m c).outK p o := by
  unfold result
  rw [block_20, block_21, lastOut_apply]
  simp only [both_value]
  rfl

/-- What a point writes back of the result is the result read through the point's block. -/
theorem flushed_eq (c : Dev nD) (t : Fin cfg0.N) :
    (dats m 0 c).flushed 22 t = ((cfg0.win 22).blk t).view.read (Elt Ideal) (result m c) := by
  show (cfg0.win 22).cut (cfg0.grid.coords t) ((dats m 0 c).after 22 t) = _
  rw [after_22]
  funext y
  show result m c _ = result m c ((win0_22.rect t).emb y)
  refine congrArg _ (funext fun a => Fin.ext ?_)
  rw [Pipeline.Window.rect_emb_val_of_index_zero win0_22 t a (by fin_cases a <;> rfl) y]

/-- The last point's block covers the result array. -/
theorem covered (i : S2048x128.Idx) : ∃ t : Fin cfg0.N, (cfg0.win 22).flush t = true ∧ i ∈ ((cfg0.win 22).blk t).view.set := by
  refine ⟨pt1, (flush0_22 pt1).mpr (by decide), ?_⟩
  show i ∈ ((View.whole main_v19).slice (win0_22.rect pt1)).set
  rw [View.set_slice_whole]
  refine (Pipeline.Window.mem_rect_iff win0_22 pt1 i (by rfl)).mpr fun a => ?_
  have e : win0_22.index pt1 a * win0_22.size a = 0 ∧ win0_22.xsize (grid0.coords pt1) a = S2048x128.size a := by
    fin_cases a <;> exact ⟨rfl, rfl⟩
  rw [e.1, e.2, Nat.zero_add]
  exact ⟨Nat.zero_le _, (i a).isLt⟩

/-- The result array ends at the result. -/
theorem final_eq (c : Dev nD) : (dats m 0 c).arrAt 22 cfg0.N = result m c :=
  (dats m 0 c).arrAt_eq_of_cover 22 (result m c) (fun t _ => flushed_eq m c t) covered

end Cert.KernelIdeal.Hand

end
-- ==== Proof.Finite.lean ====
/-
  What the precondition says: the points, the frames, the weights over the frame and the gains are real.
-/
module

public import proofs.«01_k».proof.Defs
public import proofs.«01_k».proof.Proof.KerValue
public import proofs.«01_k».proof.Proof.Gen.Pre_finite_geometry

@[expose] public section

set_option maxRecDepth 16384

noncomputable section

namespace Cert.KernelIdeal.Hand

open Cert.KernelIdeal Cert.KernelIdeal.Gen Cert.Layer
open Idealize.ShloMosaic Idealize.ShloMosaic.TcCoe

/-- The literal of positive infinity. -/
theorem lit_inf : Ideal.ofBits .f32 0x7F800000#32 = (⊤ : EReal) := by
  simp only [Ideal.ofBits, Ideal.ieee]
  have h1 : (0x7F800000#32).extractLsb' 31 1 = 0#1 := by decide
  have h2 : (0x7F800000#32).extractLsb' 23 8 = 255#8 := by decide
  have h3 : (0x7F800000#32).extractLsb' 0 23 = 0#23 := by decide
  norm_num [h1, h2, h3]

/-- A value whose absolute value is below infinity is real. -/
theorem real_of_cmp (x : EReal) (h : Ideal.cmp .olt (max x (-x)) (Ideal.ofBits .f32 0x7F800000#32) = 1#1) : ∃ r : ℝ, x = (r : EReal) := by
  rw [lit_inf] at h
  unfold Ideal.cmp at h
  have hlt : max x (-x) < ⊤ := by
    by_contra hn
    simp [hn] at h
  induction x using EReal.rec with
  | bot => simp at hlt
  | coe r => exact ⟨r, rfl⟩
  | top => simp at hlt

variable (m : (ℓ : Loc nD τ sig) → Buf (Elt Ideal) ℓ)

/-- Under the precondition the arguments named by it are real on every device. -/
theorem real_of_pre (h : Cert.Pre_KernelIdeal_finite_geometry (hPre_finite_geometry := Cert.Pre_finite_geometry.Gen.facts) m) (c : Dev nD) :
    (args m c).AreReal where
  points p a := real_of_cmp _ (congrFun (h c).1 (ix2 p a))
  frames p k a := real_of_cmp _ (congrFun (h c).2.1 (ix3 p k a))
  a1 d k := real_of_cmp _ (congrFun (h c).2.2.1 (ix2 d k))
  g1 e := real_of_cmp _ (congrFun (h c).2.2.2.1 (ix1 e))
  g2 o := real_of_cmp _ (congrFun (h c).2.2.2.2 (ix1 o))

end Cert.KernelIdeal.Hand

end
-- ==== Proof.lean ====
/-
  The proof of the certificate: the frames of the kernel, of the kernel with its constant named and of the reference; the
  named constant; and the equality of the kernel's result and the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.LitBody
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_geometry
public import proofs.«01_k».proof.Proof.RefValue
public import proofs.«01_k».proof.Proof.Finite
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel with the named constant runs from any memory, and afterwards on every device its result array
    holds `Hand.result`, its arguments are what they were, and every semaphore counter is zero. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v19) = Cert.KernelIdeal.Hand.result m c) :=
  (θ_run _ _ _).mono (fun _ h c => ((h.1 c).1 22).trans (Cert.KernelIdeal.Hand.final_eq m c)) (Cert.KernelIdeal.Hand.run m ρ)

/-- The same run leaves the arguments as they were. -/
theorem kernel_kept (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)) :=
  Cert.KernelIdeal.Gen.frame_of m ρ (Cert.KernelIdeal.Hand.dats m) (Cert.KernelIdeal.Hand.dats_A m)
    ((θ_run _ _ _).mono (fun _ h => h.1) (Cert.KernelIdeal.Hand.run m ρ))

/-- The kernel whose constant is not named leaves the arguments as they were. -/
theorem literal_kept (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)
        ∧ r.2.mem ((c.tc : Thread Cert.Kernel.nD Cert.Kernel.τ).loc Cert.Kernel.main_arg2) = m ((c.tc : Thread Cert.Kernel.nD Cert.Kernel.τ).loc Cert.Kernel.main_arg2)
        ∧ r.2.mem ((c.tc : Thread Cert.Kernel.nD Cert.Kernel.τ).loc Cert.Kernel.main_arg3) = m ((c.tc : Thread Cert.Kernel.nD Cert.Kernel.τ).loc Cert.Kernel.main_arg3)
        ∧ r.2.mem ((c.tc : Thread Cert.Kernel.nD Cert.Kernel.τ).loc Cert.Kernel.main_arg4) = m ((c.tc : Thread Cert.Kernel.nD Cert.Kernel.τ).loc Cert.Kernel.main_arg4)
        ∧ r.2.mem ((c.tc : Thread Cert.Kernel.nD Cert.Kernel.τ).loc Cert.Kernel.main_arg5) = m ((c.tc : Thread Cert.Kernel.nD Cert.Kernel.τ).loc Cert.Kernel.main_arg5)
        ∧ r.2.mem ((c.tc : Thread Cert.Kernel.nD Cert.Kernel.τ).loc Cert.Kernel.main_arg6) = m ((c.tc : Thread Cert.Kernel.nD Cert.Kernel.τ).loc Cert.Kernel.main_arg6)
        ∧ r.2.mem ((c.tc : Thread Cert.Kernel.nD Cert.Kernel.τ).loc Cert.Kernel.main_arg7) = m ((c.tc : Thread Cert.Kernel.nD Cert.Kernel.τ).loc Cert.Kernel.main_arg7)
        ∧ r.2.mem ((c.tc : Thread Cert.Kernel.nD Cert.Kernel.τ).loc Cert.Kernel.main_arg8) = m ((c.tc : Thread Cert.Kernel.nD Cert.Kernel.τ).loc Cert.Kernel.main_arg8)
        ∧ r.2.mem ((c.tc : Thread Cert.Kernel.nD Cert.Kernel.τ).loc Cert.Kernel.main_arg9) = m ((c.tc : Thread Cert.Kernel.nD Cert.Kernel.τ).loc Cert.Kernel.main_arg9)
        ∧ r.2.mem ((c.tc : Thread Cert.Kernel.nD Cert.Kernel.τ).loc Cert.Kernel.main_arg10) = m ((c.tc : Thread Cert.Kernel.nD Cert.Kernel.τ).loc Cert.Kernel.main_arg10)
        ∧ r.2.mem ((c.tc : Thread Cert.Kernel.nD Cert.Kernel.τ).loc Cert.Kernel.main_arg11) = m ((c.tc : Thread Cert.Kernel.nD Cert.Kernel.τ).loc Cert.Kernel.main_arg11)
        ∧ r.2.mem ((c.tc : Thread Cert.Kernel.nD Cert.Kernel.τ).loc Cert.Kernel.main_arg12) = m ((c.tc : Thread Cert.Kernel.nD Cert.Kernel.τ).loc Cert.Kernel.main_arg12)
        ∧ r.2.mem ((c.tc : Thread Cert.Kernel.nD Cert.Kernel.τ).loc Cert.Kernel.main_arg13) = m ((c.tc : Thread Cert.Kernel.nD Cert.Kernel.τ).loc Cert.Kernel.main_arg13)
        ∧ r.2.mem ((c.tc : Thread Cert.Kernel.nD Cert.Kernel.τ).loc Cert.Kernel.main_arg14) = m ((c.tc : Thread Cert.Kernel.nD Cert.Kernel.τ).loc Cert.Kernel.main_arg14)
        ∧ r.2.mem ((c.tc : Thread Cert.Kernel.nD Cert.Kernel.τ).loc Cert.Kernel.main_arg15) = m ((c.tc : Thread Cert.Kernel.nD Cert.Kernel.τ).loc Cert.Kernel.main_arg15)
        ∧ r.2.mem ((c.tc : Thread Cert.Kernel.nD Cert.Kernel.τ).loc Cert.Kernel.main_arg16) = m ((c.tc : Thread Cert.Kernel.nD Cert.Kernel.τ).loc Cert.Kernel.main_arg16)
        ∧ r.2.mem ((c.tc : Thread Cert.Kernel.nD Cert.Kernel.τ).loc Cert.Kernel.main_arg17) = m ((c.tc : Thread Cert.Kernel.nD Cert.Kernel.τ).loc Cert.Kernel.main_arg17)
        ∧ r.2.mem ((c.tc : Thread Cert.Kernel.nD Cert.Kernel.τ).loc Cert.Kernel.main_arg18) = m ((c.tc : Thread Cert.Kernel.nD Cert.Kernel.τ).loc Cert.Kernel.main_arg18)) :=
  Cert.Kernel.Gen.frame_of m ρ (Cert.Kernel.Hand.dats m) (Cert.Kernel.Hand.dats_A m)
    ((θ_run _ _ _).mono (fun _ h => h.1) (Cert.Kernel.Hand.run m ρ))

/-- The kernel of the certificate runs, keeps its arguments and ends with every counter at zero. -/
theorem frame_kernel : Cert.quiescent_Kernel (hKernel := Cert.Kernel.Gen.facts) := fun m ρ _ =>
  (θ_run _ _ _).mono (fun _ h => ⟨h.1, h.2.2⟩) (θ_run_and (literal_kept m ρ) (Cert.Kernel.Hand.run m ρ))

/-- So does the kernel with the named constant. -/
theorem frame_kernelIdeal : Cert.quiescent_KernelIdeal (hKernelIdeal := Cert.KernelIdeal.Gen.facts) := fun m ρ _ =>
  (θ_run _ _ _).mono (fun _ h => ⟨h.1, h.2.2⟩) (θ_run_and (kernel_kept m ρ) (Cert.KernelIdeal.Hand.run m ρ))

/-- And so it does under the precondition. -/
theorem frame_kernelIdeal_pre : Cert.quiescent_KernelIdeal_pre_finite_geometry (hKernelIdeal := Cert.KernelIdeal.Gen.facts)
    (hPre_finite_geometry := Cert.Pre_finite_geometry.Gen.facts) := fun m ρ _ =>
  (θ_run _ _ _).mono (fun _ h => ⟨h.1, h.2.2⟩) (θ_run_and (kernel_kept m ρ) (Cert.KernelIdeal.Hand.run m ρ))

/-- The reference runs, keeps its arguments and, having no semaphore at all, ends with every counter at zero. -/
theorem frame_reference : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run (F := Ideal) m ρ)

/-- And so it does under the precondition. -/
theorem frame_reference_pre : Cert.quiescent_ReferenceIdeal_pre_finite_geometry (hReferenceIdeal := Cert.ReferenceIdeal.Gen.facts)
    (hPre_finite_geometry := Cert.Pre_finite_geometry.Gen.facts) := fun m ρ _ =>
  (θ_run _ _ _).mono (fun r h => ⟨fun c => (h c).2, sem_eq_zero_of_no_sems rfl r.2⟩) (Cert.ReferenceIdeal.Value.run (F := Ideal) m ρ)

/-- The named constant rounds to the literal the kernel writes. -/
theorem preserves : Cert.preserves_Kernel_KernelIdeal :=
  IdealRules.named_const.statement Cert.KernelIdeal.κ "inv_sqrt2" .f32 0x3F3504F3#32 (((Real.sqrt 2)⁻¹ : ℝ) : EReal) rfl

/-- The reference's last stage on arguments equal to the kernel's is the kernel's result. -/
theorem values_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_finite_geometry (hPre_finite_geometry := Cert.Pre_finite_geometry.Gen.facts) m)
    (h : (∀ c : Dev Cert.KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)))
    (c : Dev Cert.KernelIdeal.nD) :
    Cert.ReferenceIdeal.Read.val_main_v197 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18))
      = Cert.KernelIdeal.Hand.result m c := by
  obtain ⟨h0, h1, h2, h3, h4, h5, h6, h7, h8, h9, h10, h11, h12, h13, h14, h15, h16, h17, h18⟩ := h c
  rw [h0, h1, h2, h3, h4, h5, h6, h7, h8, h9, h10, h11, h12, h13, h14, h15, h16, h17, h18]
  funext y
  obtain ⟨p, o, rfl⟩ := Cert.KernelIdeal.Hand.idx2 y
  rw [Cert.ReferenceIdeal.Hand.result_eq, Cert.KernelIdeal.Hand.result_apply]
  exact (Cert.Layer.Args.outK_eq_outR _ (Cert.KernelIdeal.Hand.real_of_pre m hpre c) _ _).symm

/-- On extended reals the kernel and the reference, from equal arguments satisfying the precondition, end with equal results. -/
theorem algebraic : Cert.algebraic_KernelIdeal_ReferenceIdeal_pre_finite_geometry (hKernelIdeal := Cert.KernelIdeal.Gen.facts)
    (hReferenceIdeal := Cert.ReferenceIdeal.Gen.facts) (hPre_finite_geometry := Cert.Pre_finite_geometry.Gen.facts) := by
  intro m ρ m' ρ' hpre h
  refine ⟨fun c => Cert.KernelIdeal.Hand.result m c, ?_, ?_⟩
  · exact (θ_run _ _ _).mono (fun _ k c => ⟨k.1 c, k.2 c⟩) (θ_run_and (kernel_run m ρ) (kernel_kept m ρ))
  · exact (θ_run _ _ _).mono (fun _ k c => ⟨((k c).1.trans (Cert.ReferenceIdeal.Read.val_main_v197_eq _)).trans (values_agree m m' hpre h c), (k c).2⟩)
      (Cert.ReferenceIdeal.Value.run (F := Ideal) m' ρ')

/-- The certificate: the frames, the named constant, and the equality of the results. -/
theorem claim : Cert.Claim := ⟨Cert.Kernel.Gen.facts, Cert.KernelIdeal.Gen.facts, Cert.ReferenceIdeal.Gen.facts, Cert.Pre_finite_geometry.Gen.facts,
  frame_kernel, frame_kernelIdeal, frame_kernelIdeal_pre, frame_reference, frame_reference_pre, preserves, algebraic⟩

end Cert.Proof

end
